-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_v25) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)) →
    ∃ (v0 : (c : Dev Cert.MemKVIdeal.nD) → Buf (Elt Ideal) ((c.tc : Thread Cert.MemKVIdeal.nD Cert.MemKVIdeal.τ).loc Cert.MemKVIdeal.main_v3)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v3) = v0 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v15) = v0 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v68) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Diff_DiffIdeal : Prop :=
  IdealRules.named_const.Statement Cert.DiffIdeal.κ "scale_log2e" .f32 0x3E38AA3B#32 ((8⁻¹ * (Real.log 2)⁻¹ : ℝ) : EReal)
  ∧ IdealRules.named_const.Statement Cert.DiffIdeal.κ "log2e" .f32 0x3FB8AA3B#32 (((Real.log 2)⁻¹ : ℝ) : EReal)

def preserves_Gdn_GdnIdeal : Prop :=
  True

def Claim : Prop :=
  ∃ (hInProj : Cert.InProj.Facts) (hInProjIdeal : Cert.InProjIdeal.Facts) (hInProjRefIdeal : Cert.InProjRefIdeal.Facts) (hMemKV : Cert.MemKV.Facts) (hMemKVIdeal : Cert.MemKVIdeal.Facts) (hMemKVRefIdeal : Cert.MemKVRefIdeal.Facts) (hMerge : Cert.Merge.Facts) (hMergeIdeal : Cert.MergeIdeal.Facts) (hMergeRefIdeal : Cert.MergeRefIdeal.Facts) (hDiff : Cert.Diff.Facts) (hDiffIdeal : Cert.DiffIdeal.Facts) (hGdn : Cert.Gdn.Facts) (hGdnIdeal : Cert.GdnIdeal.Facts),
    quiescent_InProj (hInProj := hInProj)
    ∧ quiescent_InProjIdeal (hInProjIdeal := hInProjIdeal)
    ∧ quiescent_InProjRefIdeal (hInProjRefIdeal := hInProjRefIdeal)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_Merge (hMerge := hMerge)
    ∧ quiescent_MergeIdeal (hMergeIdeal := hMergeIdeal)
    ∧ quiescent_MergeRefIdeal (hMergeRefIdeal := hMergeRefIdeal)
    ∧ quiescent_Diff (hDiff := hDiff)
    ∧ quiescent_DiffIdeal (hDiffIdeal := hDiffIdeal)
    ∧ quiescent_Gdn (hGdn := hGdn)
    ∧ quiescent_GdnIdeal (hGdnIdeal := hGdnIdeal)
    ∧ preserves_InProj_InProjIdeal
    ∧ algebraic_InProjIdeal_InProjRefIdeal (hInProjIdeal := hInProjIdeal) (hInProjRefIdeal := hInProjRefIdeal)
    ∧ preserves_MemKV_MemKVIdeal
    ∧ algebraic_MemKVIdeal_MemKVRefIdeal (hMemKVIdeal := hMemKVIdeal) (hMemKVRefIdeal := hMemKVRefIdeal)
    ∧ preserves_Merge_MergeIdeal
    ∧ algebraic_MergeIdeal_MergeRefIdeal (hMergeIdeal := hMergeIdeal) (hMergeRefIdeal := hMergeRefIdeal)
    ∧ preserves_Diff_DiffIdeal
    ∧ preserves_Gdn_GdnIdeal
-- ==== InProj.lean ====
abbrev S16384x1024 : Shape := ⟨2, ![16384, 1024]⟩
abbrev S4x1024 : Shape := ⟨2, ![4, 1024]⟩
abbrev S4x1024x13328 : Shape := ⟨3, ![4, 1024, 13328]⟩
abbrev S4x13328x1024 : Shape := ⟨3, ![4, 13328, 1024]⟩
abbrev S1x1024 : Shape := ⟨2, ![1, 1024]⟩
abbrev S1024 : Shape := ⟨1, ![1024]⟩
abbrev S16384x13312 : Shape := ⟨2, ![16384, 13312]⟩
abbrev S16384x256 : Shape := ⟨2, ![16384, 256]⟩
abbrev S2048x1024 : Shape := ⟨2, ![2048, 1024]⟩
abbrev S1x1024x1024 : Shape := ⟨3, ![1, 1024, 1024]⟩
abbrev S1x16x1024 : Shape := ⟨3, ![1, 16, 1024]⟩
abbrev S2048x256 : Shape := ⟨2, ![2048, 256]⟩
abbrev S2048 : Shape := ⟨1, ![2048]⟩
abbrev S2048x1 : Shape := ⟨2, ![2048, 1]⟩
abbrev S120x1024 : Shape := ⟨2, ![120, 1024]⟩
abbrev S1x8x1024 : Shape := ⟨3, ![1, 8, 1024]⟩
abbrev S8x1024 : Shape := ⟨2, ![8, 1024]⟩
abbrev S256x1024 : Shape := ⟨2, ![256, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x13328, .f32⟩
  | .hbm, ⟨3, _⟩ => ⟨S4x13328x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16384x13312, .bf16⟩
  | .hbm, ⟨8, _⟩ => ⟨S16384x256, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x16x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x256, .f32⟩
  | .local _ .vmem, ⟨9, _⟩ => ⟨S2048x256, .f32⟩
  | .local _ .vmem, ⟨10, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 13], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c16_i32 : BitVec 32 := 16#32
  let c0_i32 : BitVec 32 := 0#32
  let v2 : BitVec 32 := Scalar.select v1 c16_i32 c0_i32
  let v3 : BitVec 32 := Scalar.addi v0 v2
  v3
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3072_i32 : BitVec 32 := 3072#32
  let c0_i32_0 : BitVec 32 := 0#32
  let c0_i32_1 : BitVec 32 := 0#32
  ![c0_i32.toNat, c3072_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S16384x1024 : Shape := ⟨2, ![16384, 1024]⟩
abbrev S4x1024 : Shape := ⟨2, ![4, 1024]⟩
abbrev S4x1024x13328 : Shape := ⟨3, ![4, 1024, 13328]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x13328 : Shape := ⟨3, ![1, 1024, 13328]⟩
abbrev S1024x13328 : Shape := ⟨2, ![1024, 13328]⟩
abbrev S16384x13328 : Shape := ⟨2, ![16384, 13328]⟩
abbrev S16384x120 : Shape := ⟨2, ![16384, 120]⟩
abbrev S16384x3072 : Shape := ⟨2, ![16384, 3072]⟩
abbrev S16384x10240 : Shape := ⟨2, ![16384, 10240]⟩
abbrev S16384x13312 : Shape := ⟨2, ![16384, 13312]⟩
abbrev S16384x8 : Shape := ⟨2, ![16384, 8]⟩
abbrev S16384x256 : Shape := ⟨2, ![16384, 256]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x13328, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x13328, .f32⟩
  | .hbm, ⟨22, _⟩ => ⟨S1024x13328, .f32⟩
  | .hbm, ⟨23, _⟩ => ⟨S16384x13328, .f32⟩
  | .hbm, ⟨24, _⟩ => ⟨S_, .f32⟩
  | .hbm, ⟨25, _⟩ => ⟨S16384x120, .f32⟩
  | .hbm, ⟨26, _⟩ => ⟨S16384x3072, .f32⟩
  | .hbm, ⟨27, _⟩ => ⟨S16384x10240, .f32⟩
  | .hbm, ⟨28, _⟩ => ⟨S16384x13312, .f32⟩
  | .hbm, ⟨29, _⟩ => ⟨S16384x13312, .bf16⟩
  | .hbm, ⟨30, _⟩ => ⟨S16384x8, .f32⟩
  | .hbm, ⟨31, _⟩ => ⟨S16384x8, .f32⟩
  | .hbm, ⟨32, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== MemKV.lean ====
abbrev S4x256x1024 : Shape := ⟨3, ![4, 256, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1x1024, .f32⟩
  | .hbm, ⟨5, _⟩ => ⟨S1024x2048, .bf16⟩
  | .hbm, ⟨6, _⟩ => ⟨S1024x2048, .bf16⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKVRefIdeal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S1024x2048, .f32⟩
  | .hbm, ⟨21, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Merge.lean ====
abbrev S16384x1024 : Shape := ⟨2, ![16384, 1024]⟩
abbrev S16384x13312 : Shape := ⟨2, ![16384, 13312]⟩
abbrev S1024x2048 : Shape := ⟨2, ![1024, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 16
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x13312, .bf16⟩
  | .hbm, ⟨2, _⟩ => ⟨S16384x1024, .bf16⟩
  | .hbm, ⟨3, _⟩ => ⟨S16384x1024, .bf16⟩
  | .hbm, ⟨4, _⟩ => ⟨S1024x2048, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x1024 : Shape := ⟨2, ![16384, 1024]⟩
abbrev S16384x13312 : Shape := ⟨2, ![16384, 13312]⟩
abbrev S1024x2048 : Shape := ⟨2, ![1024, 2048]⟩
abbrev S1024x1024 : Shape := ⟨2, ![1024, 1024]⟩
abbrev S1024 : Shape := ⟨1, ![1024]⟩
abbrev S16384x3072 : Shape := ⟨2, ![16384, 3072]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x13312, .bf16⟩
  | .hbm, ⟨2, _⟩ => ⟨S16384x1024, .bf16⟩
  | .hbm, ⟨3, _⟩ => ⟨S16384x1024, .bf16⟩
  | .hbm, ⟨4, _⟩ => ⟨S1024x2048, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x3072, .bf16⟩
  | .hbm, ⟨15, _⟩ => ⟨S16384x3072, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x2048, .f32⟩
  | .hbm, ⟨21, _⟩ => ⟨S1024x1024, .f32⟩
  | .hbm, ⟨22, _⟩ => ⟨S1024x1024, .f32⟩
  | .hbm, ⟨23, _⟩ => ⟨S4x256x4x256, .f32⟩
  | .hbm, ⟨24, _⟩ => ⟨S4x256x4x256, .f32⟩
  | .hbm, ⟨25, _⟩ => ⟨S4x4096x4x256, .f32⟩
  | .hbm, ⟨26, _⟩ => ⟨S4x4x4096x256, .f32⟩
  | .hbm, ⟨27, _⟩ => ⟨S_, .f32⟩
  | .hbm, ⟨28, _⟩ => ⟨S4x4x4096x256, .f32⟩
  | .hbm, ⟨29, _⟩ => ⟨S4x4x4096x256, .f32⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x256, .f32⟩
  | .hbm, ⟨37, _⟩ => ⟨S4x4x4096x256, .f32⟩
  | .hbm, ⟨38, _⟩ => ⟨S4x4x4096x256, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x256, .f32⟩
  | .hbm, ⟨43, _⟩ => ⟨S4x4x4096x256, .f32⟩
  | .hbm, ⟨44, _⟩ => ⟨S4x4x256x4096, .f32⟩
  | .hbm, ⟨45, _⟩ => ⟨S4x4096x4x256, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x3072, .f32⟩
  | .hbm, ⟨59, _⟩ => ⟨S16384x3072, .f32⟩
  | .hbm, ⟨60, _⟩ => ⟨S_, .f32⟩
  | .hbm, ⟨61, _⟩ => ⟨S16384x3072, .f32⟩
  | .hbm, ⟨62, _⟩ => ⟨S16384x3072, .f32⟩
  | .hbm, ⟨63, _⟩ => ⟨S_, .f32⟩
  | .hbm, ⟨64, _⟩ => ⟨S16384x3072, .f32⟩
  | .hbm, ⟨65, _⟩ => ⟨S16384x3072, .f32⟩
  | .hbm, ⟨66, _⟩ => ⟨S16384x3x1024, .f32⟩
  | .hbm, ⟨67, _⟩ => ⟨S16384x1x1024, .f32⟩
  | .hbm, ⟨68, _⟩ => ⟨S16384x1024, .f32⟩
  | .hbm, ⟨69, _⟩ => ⟨S16384x1024, .f32⟩
  | .hbm, ⟨70, _⟩ => ⟨S16384x1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S16384x1024, .f32⟩
  | .hbm, ⟨94, _⟩ => ⟨S16384x1024, .f32⟩
  | .hbm, ⟨95, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Diff.lean ====
abbrev S16384x13312 : Shape := ⟨2, ![16384, 13312]⟩
abbrev S4x64 : Shape := ⟨2, ![4, 64]⟩
abbrev S128 : Shape := ⟨1, ![128]⟩
abbrev S1x128 : Shape := ⟨2, ![1, 128]⟩
abbrev S8 : Shape := ⟨1, ![8]⟩
abbrev S_ : Shape := ⟨0, ![]⟩
abbrev S8x1x1 : Shape := ⟨3, ![8, 1, 1]⟩
abbrev S8x1x128 : Shape := ⟨3, ![8, 1, 128]⟩
abbrev S16384x1024 : Shape := ⟨2, ![16384, 1024]⟩
abbrev S1x1x128 : Shape := ⟨3, ![1, 1, 128]⟩
abbrev S1024x128 : Shape := ⟨2, ![1024, 128]⟩
abbrev S4096x128 : Shape := ⟨2, ![4096, 128]⟩
abbrev S144x4096 : Shape := ⟨2, ![144, 4096]⟩
abbrev S144x2048 : Shape := ⟨2, ![144, 2048]⟩
abbrev S256x2048 : Shape := ⟨2, ![256, 2048]⟩
abbrev S128x4096 : Shape := ⟨2, ![128, 4096]⟩
abbrev S16x4096 : Shape := ⟨2, ![16, 4096]⟩
abbrev S128x1024 : Shape := ⟨2, ![128, 1024]⟩
abbrev S128x2048 : Shape := ⟨2, ![128, 2048]⟩
abbrev S256x128 : Shape := ⟨2, ![256, 128]⟩
abbrev S1x1 : Shape := ⟨2, ![1, 1]⟩
abbrev S1x2048 : Shape := ⟨2, ![1, 2048]⟩
abbrev S256x256 : Shape := ⟨2, ![256, 256]⟩
abbrev S144x256 : Shape := ⟨2, ![144, 256]⟩
abbrev S1x256 : Shape := ⟨2, ![1, 256]⟩
abbrev S256 : Shape := ⟨1, ![256]⟩
abbrev S1x64 : Shape := ⟨2, ![1, 64]⟩
abbrev S1 : Shape := ⟨1, ![1]⟩
abbrev S1x1024 : Shape := ⟨2, ![1, 1024]⟩
abbrev S1024 : Shape := ⟨1, ![1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S16384x13312, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1x1, .f32⟩
  | .hbm, ⟨18, _⟩ => ⟨S8x1x128, .f32⟩
  | .hbm, ⟨19, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S1x1x128, .f32⟩
  | .local _ .vmem, ⟨3, _⟩ => ⟨S1x1x128, .f32⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S144x4096, .bf16⟩
  | .local _ .vmem, ⟨15, _⟩ => ⟨S144x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32_18 : BitVec 32 := 0#32
  c0_i32_18
@[reducible] def k0_t1_loop (i : grid0.Coords) : Scf.Loop 32 :=
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_32 : BitVec 32 := 1#32
  ⟨c0_i32_30, v91, c1_i32_32⟩
def k0_mult2 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c0_i32_286 : BitVec 32 := 0#32
  let v730 : BitVec 32 := Scalar.addi v729 c0_i32_286
  let c1_i32_287 : BitVec 32 := 1#32
  let v731 : BitVec 32 := Scalar.addi v730 c1_i32_287
  let c256_i32_288 : BitVec 32 := 256#32
  let v732 : BitVec 32 := Scalar.muli v731 c256_i32_288
  v732
def k0_off1 (i : grid0.Coords) (k0_t1 : Fin (k0_t1_loop i).trips) (c0_i32_286 : BitVec 32) (c1_i32_287 : BitVec 32) : Fin 2 → Nat :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let v730 : BitVec 32 := Scalar.addi v729 c0_i32_286
  let v731 : BitVec 32 := Scalar.addi v730 c1_i32_287
  let c256_i32_288 : BitVec 32 := 256#32
  let v732 : BitVec 32 := Scalar.muli v731 c256_i32_288
  let v733 : BitVec 32 := v732
  let v734 : Index := Scalar.indexCast v733
  let c0_289 : Index := 0#32
  ![v734.toNat, 0]
def k0_mult3 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c0_i32_286 : BitVec 32 := 0#32
  let v730 : BitVec 32 := Scalar.addi v729 c0_i32_286
  let c256_i32_293 : BitVec 32 := 256#32
  let v741 : BitVec 32 := Scalar.muli v730 c256_i32_293
  v741
def k0_off2 (i : grid0.Coords) (k0_t1 : Fin (k0_t1_loop i).trips) (c0_i32_286 : BitVec 32) : Fin 2 → Nat :=
  let c0_295 : Index := 0#32
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let v730 : BitVec 32 := Scalar.addi v729 c0_i32_286
  let c256_i32_293 : BitVec 32 := 256#32
  let v741 : BitVec 32 := Scalar.muli v730 c256_i32_293
  let v742 : BitVec 32 := v741
  let v747 : Index := Scalar.indexCast v742
  ![0, v747.toNat]
def k0_mult4 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c0_i32_286 : BitVec 32 := 0#32
  let v730 : BitVec 32 := Scalar.addi v729 c0_i32_286
  let c2_i32_360 : BitVec 32 := 2#32
  let v942 : BitVec 32 := Scalar.addi v730 c2_i32_360
  let c256_i32_361 : BitVec 32 := 256#32
  let v943 : BitVec 32 := Scalar.muli v942 c256_i32_361
  v943
def k0_mult5 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c0_i32_286 : BitVec 32 := 0#32
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  v953
def k0_off3 (i : grid0.Coords) (k0_t1 : Fin (k0_t1_loop i).trips) (c0_i32_286 : BitVec 32) : Fin 2 → Nat :=
  let c0_369 : Index := 0#32
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  let v954 : BitVec 32 := v953
  let v959 : Index := Scalar.indexCast v954
  ![0, v959.toNat]
def k0_mult6 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c2_i32_434 : BitVec 32 := 2#32
  let v1154 : BitVec 32 := Scalar.addi v729 c2_i32_434
  let c1_i32_435 : BitVec 32 := 1#32
  let v1155 : BitVec 32 := Scalar.addi v1154 c1_i32_435
  let c256_i32_436 : BitVec 32 := 256#32
  let v1156 : BitVec 32 := Scalar.muli v1155 c256_i32_436
  v1156
def k0_mult7 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c2_i32_434 : BitVec 32 := 2#32
  let v1154 : BitVec 32 := Scalar.addi v729 c2_i32_434
  let c256_i32_441 : BitVec 32 := 256#32
  let v1165 : BitVec 32 := Scalar.muli v1154 c256_i32_441
  v1165
def k0_mult8 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c2_i32_434 : BitVec 32 := 2#32
  let v1154 : BitVec 32 := Scalar.addi v729 c2_i32_434
  let c2_i32_508 : BitVec 32 := 2#32
  let v1366 : BitVec 32 := Scalar.addi v1154 c2_i32_508
  let c256_i32_509 : BitVec 32 := 256#32
  let v1367 : BitVec 32 := Scalar.muli v1366 c256_i32_509
  v1367
def k0_mult9 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c2_i32_434 : BitVec 32 := 2#32
  let v1154 : BitVec 32 := Scalar.addi v729 c2_i32_434
  let c1_i32_514 : BitVec 32 := 1#32
  let v1376 : BitVec 32 := Scalar.addi v1154 c1_i32_514
  let c256_i32_515 : BitVec 32 := 256#32
  let v1377 : BitVec 32 := Scalar.muli v1376 c256_i32_515
  v1377
def k0_mult10 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c4_i32_582 : BitVec 32 := 4#32
  let v1578 : BitVec 32 := Scalar.addi v729 c4_i32_582
  let c1_i32_583 : BitVec 32 := 1#32
  let v1579 : BitVec 32 := Scalar.addi v1578 c1_i32_583
  let c256_i32_584 : BitVec 32 := 256#32
  let v1580 : BitVec 32 := Scalar.muli v1579 c256_i32_584
  v1580
def k0_mult11 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c4_i32_582 : BitVec 32 := 4#32
  let v1578 : BitVec 32 := Scalar.addi v729 c4_i32_582
  let c256_i32_589 : BitVec 32 := 256#32
  let v1589 : BitVec 32 := Scalar.muli v1578 c256_i32_589
  v1589
def k0_mult12 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c4_i32_582 : BitVec 32 := 4#32
  let v1578 : BitVec 32 := Scalar.addi v729 c4_i32_582
  let c2_i32_656 : BitVec 32 := 2#32
  let v1790 : BitVec 32 := Scalar.addi v1578 c2_i32_656
  let c256_i32_657 : BitVec 32 := 256#32
  let v1791 : BitVec 32 := Scalar.muli v1790 c256_i32_657
  v1791
def k0_mult13 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c4_i32_582 : BitVec 32 := 4#32
  let v1578 : BitVec 32 := Scalar.addi v729 c4_i32_582
  let c1_i32_662 : BitVec 32 := 1#32
  let v1800 : BitVec 32 := Scalar.addi v1578 c1_i32_662
  let c256_i32_663 : BitVec 32 := 256#32
  let v1801 : BitVec 32 := Scalar.muli v1800 c256_i32_663
  v1801
def k0_mult14 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c6_i32 : BitVec 32 := 6#32
  let v2002 : BitVec 32 := Scalar.addi v729 c6_i32
  let c1_i32_730 : BitVec 32 := 1#32
  let v2003 : BitVec 32 := Scalar.addi v2002 c1_i32_730
  let c256_i32_731 : BitVec 32 := 256#32
  let v2004 : BitVec 32 := Scalar.muli v2003 c256_i32_731
  v2004
def k0_mult15 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c6_i32 : BitVec 32 := 6#32
  let v2002 : BitVec 32 := Scalar.addi v729 c6_i32
  let c256_i32_736 : BitVec 32 := 256#32
  let v2013 : BitVec 32 := Scalar.muli v2002 c256_i32_736
  v2013
def k0_mult16 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c6_i32 : BitVec 32 := 6#32
  let v2002 : BitVec 32 := Scalar.addi v729 c6_i32
  let c2_i32_803 : BitVec 32 := 2#32
  let v2214 : BitVec 32 := Scalar.addi v2002 c2_i32_803
  let c256_i32_804 : BitVec 32 := 256#32
  let v2215 : BitVec 32 := Scalar.muli v2214 c256_i32_804
  v2215
def k0_mult17 (i : grid0.Coords) (k0_t1 : Fin (k0_t1_loop i).trips) : BitVec 32 :=
  let c8_i32_285 : BitVec 32 := 8#32
  let c0_i32_30 : BitVec 32 := 0#32
  let c1_i32_32 : BitVec 32 := 1#32
  let arg17 : BitVec 32 := Scf.iv c0_i32_30 c1_i32_32 k0_t1
  let v729 : BitVec 32 := Scalar.muli c8_i32_285 arg17
  let c6_i32 : BitVec 32 := 6#32
  let v2002 : BitVec 32 := Scalar.addi v729 c6_i32
  let c1_i32_809 : BitVec 32 := 1#32
  let v2224 : BitVec 32 := Scalar.addi v2002 c1_i32_809
  let c256_i32_810 : BitVec 32 := 256#32
  let v2225 : BitVec 32 := Scalar.muli v2224 c256_i32_810
  v2225
@[reducible] def k0_t2_loop (i : grid0.Coords) : Scf.Loop 32 :=
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let v88 : BitVec 32 := Scalar.addi c0_i32_30 v87
  let c1_i32_33 : BitVec 32 := 1#32
  ⟨v91, v88, c1_i32_33⟩
def k0_mult18 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c0_i32_286 : BitVec 32 := 0#32
  let v730 : BitVec 32 := Scalar.addi v729 c0_i32_286
  let c1_i32_287 : BitVec 32 := 1#32
  let v731 : BitVec 32 := Scalar.addi v730 c1_i32_287
  let c256_i32_288 : BitVec 32 := 256#32
  let v732 : BitVec 32 := Scalar.muli v731 c256_i32_288
  v732
def k0_off4 (i : grid0.Coords) (k0_t2 : Fin (k0_t2_loop i).trips) (c0_i32_286 : BitVec 32) (c1_i32_287 : BitVec 32) : Fin 2 → Nat :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let v730 : BitVec 32 := Scalar.addi v729 c0_i32_286
  let v731 : BitVec 32 := Scalar.addi v730 c1_i32_287
  let c256_i32_288 : BitVec 32 := 256#32
  let v732 : BitVec 32 := Scalar.muli v731 c256_i32_288
  let v733 : BitVec 32 := v732
  let v734 : Index := Scalar.indexCast v733
  let c0_289 : Index := 0#32
  ![v734.toNat, 0]
def k0_mult19 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c0_i32_286 : BitVec 32 := 0#32
  let v730 : BitVec 32 := Scalar.addi v729 c0_i32_286
  let c256_i32_293 : BitVec 32 := 256#32
  let v741 : BitVec 32 := Scalar.muli v730 c256_i32_293
  v741
def k0_off5 (i : grid0.Coords) (k0_t2 : Fin (k0_t2_loop i).trips) (c0_i32_286 : BitVec 32) : Fin 2 → Nat :=
  let c0_295 : Index := 0#32
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let v730 : BitVec 32 := Scalar.addi v729 c0_i32_286
  let c256_i32_293 : BitVec 32 := 256#32
  let v741 : BitVec 32 := Scalar.muli v730 c256_i32_293
  let v742 : BitVec 32 := v741
  let v747 : Index := Scalar.indexCast v742
  ![0, v747.toNat]
def k0_mult20 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c0_i32_286 : BitVec 32 := 0#32
  let v730 : BitVec 32 := Scalar.addi v729 c0_i32_286
  let c2_i32_360 : BitVec 32 := 2#32
  let v942 : BitVec 32 := Scalar.addi v730 c2_i32_360
  let c256_i32_361 : BitVec 32 := 256#32
  let v943 : BitVec 32 := Scalar.muli v942 c256_i32_361
  v943
def k0_mult21 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c0_i32_286 : BitVec 32 := 0#32
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  v953
def k0_off6 (i : grid0.Coords) (k0_t2 : Fin (k0_t2_loop i).trips) (c0_i32_286 : BitVec 32) : Fin 2 → Nat :=
  let c0_369 : Index := 0#32
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  let v954 : BitVec 32 := v953
  let v959 : Index := Scalar.indexCast v954
  ![0, v959.toNat]
def k0_mult22 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c2_i32_434 : BitVec 32 := 2#32
  let v1154 : BitVec 32 := Scalar.addi v729 c2_i32_434
  let c1_i32_435 : BitVec 32 := 1#32
  let v1155 : BitVec 32 := Scalar.addi v1154 c1_i32_435
  let c256_i32_436 : BitVec 32 := 256#32
  let v1156 : BitVec 32 := Scalar.muli v1155 c256_i32_436
  v1156
def k0_mult23 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c2_i32_434 : BitVec 32 := 2#32
  let v1154 : BitVec 32 := Scalar.addi v729 c2_i32_434
  let c256_i32_441 : BitVec 32 := 256#32
  let v1165 : BitVec 32 := Scalar.muli v1154 c256_i32_441
  v1165
def k0_mult24 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c2_i32_434 : BitVec 32 := 2#32
  let v1154 : BitVec 32 := Scalar.addi v729 c2_i32_434
  let c2_i32_508 : BitVec 32 := 2#32
  let v1366 : BitVec 32 := Scalar.addi v1154 c2_i32_508
  let c256_i32_509 : BitVec 32 := 256#32
  let v1367 : BitVec 32 := Scalar.muli v1366 c256_i32_509
  v1367
def k0_mult25 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c2_i32_434 : BitVec 32 := 2#32
  let v1154 : BitVec 32 := Scalar.addi v729 c2_i32_434
  let c1_i32_514 : BitVec 32 := 1#32
  let v1376 : BitVec 32 := Scalar.addi v1154 c1_i32_514
  let c256_i32_515 : BitVec 32 := 256#32
  let v1377 : BitVec 32 := Scalar.muli v1376 c256_i32_515
  v1377
def k0_mult26 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c4_i32_582 : BitVec 32 := 4#32
  let v1578 : BitVec 32 := Scalar.addi v729 c4_i32_582
  let c1_i32_583 : BitVec 32 := 1#32
  let v1579 : BitVec 32 := Scalar.addi v1578 c1_i32_583
  let c256_i32_584 : BitVec 32 := 256#32
  let v1580 : BitVec 32 := Scalar.muli v1579 c256_i32_584
  v1580
def k0_mult27 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c4_i32_582 : BitVec 32 := 4#32
  let v1578 : BitVec 32 := Scalar.addi v729 c4_i32_582
  let c256_i32_589 : BitVec 32 := 256#32
  let v1589 : BitVec 32 := Scalar.muli v1578 c256_i32_589
  v1589
def k0_mult28 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c4_i32_582 : BitVec 32 := 4#32
  let v1578 : BitVec 32 := Scalar.addi v729 c4_i32_582
  let c2_i32_656 : BitVec 32 := 2#32
  let v1790 : BitVec 32 := Scalar.addi v1578 c2_i32_656
  let c256_i32_657 : BitVec 32 := 256#32
  let v1791 : BitVec 32 := Scalar.muli v1790 c256_i32_657
  v1791
def k0_mult29 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c4_i32_582 : BitVec 32 := 4#32
  let v1578 : BitVec 32 := Scalar.addi v729 c4_i32_582
  let c1_i32_662 : BitVec 32 := 1#32
  let v1800 : BitVec 32 := Scalar.addi v1578 c1_i32_662
  let c256_i32_663 : BitVec 32 := 256#32
  let v1801 : BitVec 32 := Scalar.muli v1800 c256_i32_663
  v1801
def k0_mult30 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c6_i32 : BitVec 32 := 6#32
  let v2002 : BitVec 32 := Scalar.addi v729 c6_i32
  let c1_i32_730 : BitVec 32 := 1#32
  let v2003 : BitVec 32 := Scalar.addi v2002 c1_i32_730
  let c256_i32_731 : BitVec 32 := 256#32
  let v2004 : BitVec 32 := Scalar.muli v2003 c256_i32_731
  v2004
def k0_mult31 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c6_i32 : BitVec 32 := 6#32
  let v2002 : BitVec 32 := Scalar.addi v729 c6_i32
  let c256_i32_736 : BitVec 32 := 256#32
  let v2013 : BitVec 32 := Scalar.muli v2002 c256_i32_736
  v2013
def k0_mult32 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c6_i32 : BitVec 32 := 6#32
  let v2002 : BitVec 32 := Scalar.addi v729 c6_i32
  let c2_i32_803 : BitVec 32 := 2#32
  let v2214 : BitVec 32 := Scalar.addi v2002 c2_i32_803
  let c256_i32_804 : BitVec 32 := 256#32
  let v2215 : BitVec 32 := Scalar.muli v2214 c256_i32_804
  v2215
def k0_mult33 (i : grid0.Coords) (k0_t2 : Fin (k0_t2_loop i).trips) : BitVec 32 :=
  let c8_i32_285 : BitVec 32 := 8#32
  let c0_i32_30 : BitVec 32 := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let v87 : BitVec 32 := Scalar.subi v86 c0_i32_30
  let c1_i32_31 : BitVec 32 := 1#32
  let v89 : BitVec 32 := Scalar.divsi v87 c1_i32_31
  let v90 : BitVec 32 := Scalar.muli v89 c1_i32_31
  let v91 : BitVec 32 := Scalar.addi c0_i32_30 v90
  let c1_i32_33 : BitVec 32 := 1#32
  let arg17 : BitVec 32 := Scf.iv v91 c1_i32_33 k0_t2
  let v729 : BitVec 32 := Scalar.muli c8_i32_285 arg17
  let c6_i32 : BitVec 32 := 6#32
  let v2002 : BitVec 32 := Scalar.addi v729 c6_i32
  let c1_i32_809 : BitVec 32 := 1#32
  let v2224 : BitVec 32 := Scalar.addi v2002 c1_i32_809
  let c256_i32_810 : BitVec 32 := 256#32
  let v2225 : BitVec 32 := Scalar.muli v2224 c256_i32_810
  v2225
def k0_cond2 (i : grid0.Coords) : BitVec 1 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_34 : BitVec 32 := 8#32
  let v94 : BitVec 32 := Scalar.muli v86 c8_i32_34
  let v95 : BitVec 32 := Scalar.subi v69 v94
  let c0_i32_35 : BitVec 32 := 0#32
  let v96 : BitVec 1 := Scalar.cmpi .sgt v95 c0_i32_35
  let v97 : BitVec 32 := Scalar.extui v96
  let c0_i32_36 : BitVec 32 := 0#32
  let v98 : BitVec 1 := Scalar.cmpi .ne v97 c0_i32_36
  v98

def k0_mult34 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c0_i32_286 : BitVec 32 := 0#32
  let v730 : BitVec 32 := Scalar.addi v729 c0_i32_286
  let c1_i32_287 : BitVec 32 := 1#32
  let v731 : BitVec 32 := Scalar.addi v730 c1_i32_287
  let c256_i32_288 : BitVec 32 := 256#32
  let v732 : BitVec 32 := Scalar.muli v731 c256_i32_288
  v732
def k0_off7 (i : grid0.Coords) (c0_i32_286 : BitVec 32) (c1_i32_287 : BitVec 32) : Fin 2 → Nat :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let v730 : BitVec 32 := Scalar.addi v729 c0_i32_286
  let v731 : BitVec 32 := Scalar.addi v730 c1_i32_287
  let c256_i32_288 : BitVec 32 := 256#32
  let v732 : BitVec 32 := Scalar.muli v731 c256_i32_288
  let v733 : BitVec 32 := v732
  let v734 : Index := Scalar.indexCast v733
  let c0_289 : Index := 0#32
  ![v734.toNat, 0]
def k0_mult35 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c0_i32_286 : BitVec 32 := 0#32
  let v730 : BitVec 32 := Scalar.addi v729 c0_i32_286
  let c256_i32_293 : BitVec 32 := 256#32
  let v741 : BitVec 32 := Scalar.muli v730 c256_i32_293
  v741
def k0_off8 (i : grid0.Coords) (c0_i32_286 : BitVec 32) : Fin 2 → Nat :=
  let c0_295 : Index := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let v730 : BitVec 32 := Scalar.addi v729 c0_i32_286
  let c256_i32_293 : BitVec 32 := 256#32
  let v741 : BitVec 32 := Scalar.muli v730 c256_i32_293
  let v742 : BitVec 32 := v741
  let v747 : Index := Scalar.indexCast v742
  ![0, v747.toNat]
def k0_mult36 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c0_i32_286 : BitVec 32 := 0#32
  let v730 : BitVec 32 := Scalar.addi v729 c0_i32_286
  let c2_i32_360 : BitVec 32 := 2#32
  let v942 : BitVec 32 := Scalar.addi v730 c2_i32_360
  let c256_i32_361 : BitVec 32 := 256#32
  let v943 : BitVec 32 := Scalar.muli v942 c256_i32_361
  v943
def k0_mult37 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c0_i32_286 : BitVec 32 := 0#32
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  v953
def k0_off9 (i : grid0.Coords) (c0_i32_286 : BitVec 32) : Fin 2 → Nat :=
  let c0_369 : Index := 0#32
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let v730 : BitVec 32 := Scalar.addi v729 c0_i32_286
  let c1_i32_366 : BitVec 32 := 1#32
  let v952 : BitVec 32 := Scalar.addi v730 c1_i32_366
  let c256_i32_367 : BitVec 32 := 256#32
  let v953 : BitVec 32 := Scalar.muli v952 c256_i32_367
  let v954 : BitVec 32 := v953
  let v959 : Index := Scalar.indexCast v954
  ![0, v959.toNat]
def k0_mult38 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c2_i32_434 : BitVec 32 := 2#32
  let v1154 : BitVec 32 := Scalar.addi v729 c2_i32_434
  let c1_i32_435 : BitVec 32 := 1#32
  let v1155 : BitVec 32 := Scalar.addi v1154 c1_i32_435
  let c256_i32_436 : BitVec 32 := 256#32
  let v1156 : BitVec 32 := Scalar.muli v1155 c256_i32_436
  v1156
def k0_mult39 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c2_i32_434 : BitVec 32 := 2#32
  let v1154 : BitVec 32 := Scalar.addi v729 c2_i32_434
  let c256_i32_441 : BitVec 32 := 256#32
  let v1165 : BitVec 32 := Scalar.muli v1154 c256_i32_441
  v1165
def k0_mult40 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c2_i32_434 : BitVec 32 := 2#32
  let v1154 : BitVec 32 := Scalar.addi v729 c2_i32_434
  let c2_i32_508 : BitVec 32 := 2#32
  let v1366 : BitVec 32 := Scalar.addi v1154 c2_i32_508
  let c256_i32_509 : BitVec 32 := 256#32
  let v1367 : BitVec 32 := Scalar.muli v1366 c256_i32_509
  v1367
def k0_mult41 (i : grid0.Coords) : BitVec 32 :=
  let arg2 : BitVec 32 := BitVec.ofNat 32 (i 2).val
  let c4_i32_23 : BitVec 32 := 4#32
  let v69 : BitVec 32 := Scalar.muli arg2 c4_i32_23
  let c0_i32_24 : BitVec 32 := 0#32
  let v71 : BitVec 1 := Scalar.cmpi .sgt v69 c0_i32_24
  let v72 : BitVec 32 := Scalar.extui v71
  let c0_i32_25 : BitVec 32 := 0#32
  let v73 : BitVec 1 := Scalar.cmpi .slt v69 c0_i32_25
  let v74 : BitVec 32 := Scalar.extui v73
  let v75 : BitVec 32 := Scalar.subi v72 v74
  let c8_i32 : BitVec 32 := 8#32
  let c0_i32_26 : BitVec 32 := 0#32
  let v76 : BitVec 1 := Scalar.cmpi .sgt c8_i32 c0_i32_26
  let v77 : BitVec 32 := Scalar.extui v76
  let c0_i32_27 : BitVec 32 := 0#32
  let v78 : BitVec 1 := Scalar.cmpi .slt c8_i32 c0_i32_27
  let v79 : BitVec 32 := Scalar.extui v78
  let v80 : BitVec 32 := Scalar.subi v77 v79
  let v81 : BitVec 1 := Scalar.cmpi .ne v75 v80
  let v82 : BitVec 32 := Scalar.remsi v69 c8_i32
  let c0_i32_28 : BitVec 32 := 0#32
  let v83 : BitVec 1 := Scalar.cmpi .ne v82 c0_i32_28
  let v84 : BitVec 1 := Scalar.andi v81 v83
  let v70 : BitVec 32 := Scalar.divsi v69 c8_i32
  let c1_i32_29 : BitVec 32 := 1#32
  let v85 : BitVec 32 := Scalar.subi v70 c1_i32_29
  let v86 : BitVec 32 := Scalar.select v84 v85 v70
  let c8_i32_285 : BitVec 32 := 8#32
  let v729 : BitVec 32 := Scalar.muli v86 c8_i32_285
  let c2_i32_434 : BitVec 32 := 2#32
  let v1154 : BitVec 32 := Scalar.addi v729 c2_i32_434
  let c1_i32_514 : BitVec 32 := 1#32
  let v1376 : BitVec 32 := Scalar.addi v1154 c1_i32_514
  let c256_i32_515 : BitVec 32 := 256#32
  let v1377 : BitVec 32 := Scalar.muli v1376 c256_i32_515
  v1377
def k0_mult42 (i : grid0.Coords) : BitVec 32 :=
  let arg2 : BitVec 32 := BitVec.ofNat 32 (i 2).val
  let c4_i32_23 : BitVec 32 := 4#32
  let v69 : BitVec 32 := Scalar.muli arg2 c4_i32_23
  let c1_i32_37 : BitVec 32 := 1#32
  let v100 : BitVec 32 := Scalar.addi v69 c1_i32_37
  let c256_i32 : BitVec 32 := 256#32
  let v101 : BitVec 32 := Scalar.muli v100 c256_i32
  v101
def k0_off10 (i : grid0.Coords) (c1_i32_37 : BitVec 32) : Fin 2 → Nat :=
  let arg2 : BitVec 32 := BitVec.ofNat 32 (i 2).val
  let c4_i32_23 : BitVec 32 := 4#32
  let v69 : BitVec 32 := Scalar.muli arg2 c4_i32_23
  let v100 : BitVec 32 := Scalar.addi v69 c1_i32_37
  let c256_i32 : BitVec 32 := 256#32
  let v101 : BitVec 32 := Scalar.muli v100 c256_i32
  let v102 : BitVec 32 := v101
  let v103 : Index := Scalar.indexCast v102
  let c0_38 : Index := 0#32
  ![v103.toNat, 0]
def k0_mult43 (i : grid0.Coords) : BitVec 32 :=
  let arg2 : BitVec 32 := BitVec.ofNat 32 (i 2).val
  let c4_i32_23 : BitVec 32 := 4#32
  let v69 : BitVec 32 := Scalar.muli arg2 c4_i32_23
  let c2_i32_51 : BitVec 32 := 2#32
  let v136 : BitVec 32 := Scalar.addi v69 c2_i32_51
  let c256_i32_52 : BitVec 32 := 256#32
  let v137 : BitVec 32 := Scalar.muli v136 c256_i32_52
  v137
def k0_mult44 (i : grid0.Coords) : BitVec 32 :=
  let arg2 : BitVec 32 := BitVec.ofNat 32 (i 2).val
  let c4_i32_23 : BitVec 32 := 4#32
  let v69 : BitVec 32 := Scalar.muli arg2 c4_i32_23
  let c3_i32 : BitVec 32 := 3#32
  let v162 : BitVec 32 := Scalar.addi v69 c3_i32
  let c256_i32_66 : BitVec 32 := 256#32
  let v163 : BitVec 32 := Scalar.muli v162 c256_i32_66
  v163
def k0_mult45 (i : grid0.Coords) : BitVec 32 :=
  let arg2 : BitVec 32 := BitVec.ofNat 32 (i 2).val
  let c4_i32_23 : BitVec 32 := 4#32
  let v69 : BitVec 32 := Scalar.muli arg2 c4_i32_23
  let c0_i32_86 : BitVec 32 := 0#32
  let v216 : BitVec 32 := Scalar.addi v69 c0_i32_86
  let c256_i32_87 : BitVec 32 := 256#32
  let v217 : BitVec 32 := Scalar.muli v216 c256_i32_87
  v217
def k0_off11 (i : grid0.Coords) (c0_i32_86 : BitVec 32) : Fin 2 → Nat :=
  let c0_88 : Index := 0#32
  let arg2 : BitVec 32 := BitVec.ofNat 32 (i 2).val
  let c4_i32_23 : BitVec 32 := 4#32
  let v69 : BitVec 32 := Scalar.muli arg2 c4_i32_23
  let v216 : BitVec 32 := Scalar.addi v69 c0_i32_86
  let c256_i32_87 : BitVec 32 := 256#32
  let v217 : BitVec 32 := Scalar.muli v216 c256_i32_87
  let v218 : BitVec 32 := v217
  let v219 : Index := Scalar.indexCast v218
  ![0, v219.toNat]
def k0_mult46 (i : grid0.Coords) : BitVec 32 :=
  let arg2 : BitVec 32 := BitVec.ofNat 32 (i 2).val
  let c4_i32_23 : BitVec 32 := 4#32
  let v69 : BitVec 32 := Scalar.muli arg2 c4_i32_23
  let c0_i32_101 : BitVec 32 := 0#32
  let v252 : BitVec 32 := Scalar.addi v69 c0_i32_101
  let c256_i32_102 : BitVec 32 := 256#32
  let v253 : BitVec 32 := Scalar.muli v252 c256_i32_102
  v253
def k0_mult47 (i : grid0.Coords) : BitVec 32 :=
  let arg2 : BitVec 32 := BitVec.ofNat 32 (i 2).val
  let c4_i32_23 : BitVec 32 := 4#32
  let v69 : BitVec 32 := Scalar.muli arg2 c4_i32_23
  let c1_i32_105 : BitVec 32 := 1#32
  let v264 : BitVec 32 := Scalar.addi v69 c1_i32_105
  let c256_i32_106 : BitVec 32 := 256#32
  let v265 : BitVec 32 := Scalar.muli v264 c256_i32_106
  v265
def k0_mult48 (i : grid0.Coords) : BitVec 32 :=
  let arg2 : BitVec 32 := BitVec.ofNat 32 (i 2).val
  let c4_i32_23 : BitVec 32 := 4#32
  let v69 : BitVec 32 := Scalar.muli arg2 c4_i32_23
  let c0_i32_123 : BitVec 32 := 0#32
  let v307 : BitVec 32 := Scalar.addi v69 c0_i32_123
  let c256_i32_124 : BitVec 32 := 256#32
  let v308 : BitVec 32 := Scalar.muli v307 c256_i32_124
  v308
def k0_mult49 (i : grid0.Coords) : BitVec 32 :=
  let arg2 : BitVec 32 := BitVec.ofNat 32 (i 2).val
  let c4_i32_23 : BitVec 32 := 4#32
  let v69 : BitVec 32 := Scalar.muli arg2 c4_i32_23
  let c1_i32_127 : BitVec 32 := 1#32
  let v319 : BitVec 32 := Scalar.addi v69 c1_i32_127
  let c256_i32_128 : BitVec 32 := 256#32
  let v320 : BitVec 32 := Scalar.muli v319 c256_i32_128
  v320
def k0_mult50 (i : grid0.Coords) : BitVec 32 :=
  let arg2 : BitVec 32 := BitVec.ofNat 32 (i 2).val
  let c4_i32_23 : BitVec 32 := 4#32
  let v69 : BitVec 32 := Scalar.muli arg2 c4_i32_23
  let c2_i32_131 : BitVec 32 := 2#32
  let v332 : BitVec 32 := Scalar.addi v69 c2_i32_131
  let c256_i32_132 : BitVec 32 := 256#32
  let v333 : BitVec 32 := Scalar.muli v332 c256_i32_132
  v333
def k0_mult51 (i : grid0.Coords) : BitVec 32 :=
  let arg2 : BitVec 32 := BitVec.ofNat 32 (i 2).val
  let c4_i32_23 : BitVec 32 := 4#32
  let v69 : BitVec 32 := Scalar.muli arg2 c4_i32_23
  let c0_i32_152 : BitVec 32 := 0#32
  let v381 : BitVec 32 := Scalar.addi v69 c0_i32_152
  let c256_i32_153 : BitVec 32 := 256#32
  let v382 : BitVec 32 := Scalar.muli v381 c256_i32_153
  v382
def k0_mult52 (i : grid0.Coords) : BitVec 32 :=
  let arg2 : BitVec 32 := BitVec.ofNat 32 (i 2).val
  let c4_i32_23 : BitVec 32 := 4#32
  let v69 : BitVec 32 := Scalar.muli arg2 c4_i32_23
  let c1_i32_156 : BitVec 32 := 1#32
  let v393 : BitVec 32 := Scalar.addi v69 c1_i32_156
  let c256_i32_157 : BitVec 32 := 256#32
  let v394 : BitVec 32 := Scalar.muli v393 c256_i32_157
  v394
def k0_mult53 (i : grid0.Coords) : BitVec 32 :=
  let arg2 : BitVec 32 := BitVec.ofNat 32 (i 2).val
  let c4_i32_23 : BitVec 32 := 4#32
  let v69 : BitVec 32 := Scalar.muli arg2 c4_i32_23
  let c2_i32_160 : BitVec 32 := 2#32
  let v406 : BitVec 32 := Scalar.addi v69 c2_i32_160
  let c256_i32_161 : BitVec 32 := 256#32
  let v407 : BitVec 32 := Scalar.muli v406 c256_i32_161
  v407
def k0_mult54 (i : grid0.Coords) : BitVec 32 :=
  let arg2 : BitVec 32 := BitVec.ofNat 32 (i 2).val
  let c4_i32_23 : BitVec 32 := 4#32
  let v69 : BitVec 32 := Scalar.muli arg2 c4_i32_23
  let c3_i32_164 : BitVec 32 := 3#32
  let v419 : BitVec 32 := Scalar.addi v69 c3_i32_164
  let c256_i32_165 : BitVec 32 := 256#32
  let v420 : BitVec 32 := Scalar.muli v419 c256_i32_165
  v420
def k0_mult55 (i : grid0.Coords) : BitVec 32 :=
  let arg2 : BitVec 32 := BitVec.ofNat 32 (i 2).val
  let c4_i32_23 : BitVec 32 := 4#32
  let v69 : BitVec 32 := Scalar.muli arg2 c4_i32_23
  let c0_i32_175 : BitVec 32 := 0#32
  let v450 : BitVec 32 := Scalar.addi v69 c0_i32_175
  let c256_i32_176 : BitVec 32 := 256#32
  let v451 : BitVec 32 := Scalar.muli v450 c256_i32_176
  v451
def k0_mult56 (i : grid0.Coords) : BitVec 32 :=
  let arg2 : BitVec 32 := BitVec.ofNat 32 (i 2).val
  let c4_i32_23 : BitVec 32 := 4#32
  let v69 : BitVec 32 := Scalar.muli arg2 c4_i32_23
  let c0_i32_190 : BitVec 32 := 0#32
  let v486 : BitVec 32 := Scalar.addi v69 c0_i32_190
  let c256_i32_191 : BitVec 32 := 256#32
  let v487 : BitVec 32 := Scalar.muli v486 c256_i32_191
  v487
def k0_mult57 (i : grid0.Coords) : BitVec 32 :=
  let arg2 : BitVec 32 := BitVec.ofNat 32 (i 2).val
  let c4_i32_23 : BitVec 32 := 4#32
  let v69 : BitVec 32 := Scalar.muli arg2 c4_i32_23
  let c1_i32_194 : BitVec 32 := 1#32
  let v498 : BitVec 32 := Scalar.addi v69 c1_i32_194
  let c256_i32_195 : BitVec 32 := 256#32
  let v499 : BitVec 32 := Scalar.muli v498 c256_i32_195
  v499
def k0_mult58 (i : grid0.Coords) : BitVec 32 :=
  let arg2 : BitVec 32 := BitVec.ofNat 32 (i 2).val
  let c4_i32_23 : BitVec 32 := 4#32
  let v69 : BitVec 32 := Scalar.muli arg2 c4_i32_23
  let c0_i32_212 : BitVec 32 := 0#32
  let v541 : BitVec 32 := Scalar.addi v69 c0_i32_212
  let c256_i32_213 : BitVec 32 := 256#32
  let v542 : BitVec 32 := Scalar.muli v541 c256_i32_213
  v542
def k0_mult59 (i : grid0.Coords) : BitVec 32 :=
  let arg2 : BitVec 32 := BitVec.ofNat 32 (i 2).val
  let c4_i32_23 : BitVec 32 := 4#32
  let v69 : BitVec 32 := Scalar.muli arg2 c4_i32_23
  let c1_i32_216 : BitVec 32 := 1#32
  let v553 : BitVec 32 := Scalar.addi v69 c1_i32_216
  let c256_i32_217 : BitVec 32 := 256#32
  let v554 : BitVec 32 := Scalar.muli v553 c256_i32_217
  v554
def k0_mult60 (i : grid0.Coords) : BitVec 32 :=
  let arg2 : BitVec 32 := BitVec.ofNat 32 (i 2).val
  let c4_i32_23 : BitVec 32 := 4#32
  let v69 : BitVec 32 := Scalar.muli arg2 c4_i32_23
  let c2_i32_220 : BitVec 32 := 2#32
  let v566 : BitVec 32 := Scalar.addi v69 c2_i32_220
  let c256_i32_221 : BitVec 32 := 256#32
  let v567 : BitVec 32 := Scalar.muli v566 c256_i32_221
  v567
def k0_mult61 (i : grid0.Coords) : BitVec 32 :=
  let arg2 : BitVec 32 := BitVec.ofNat 32 (i 2).val
  let c4_i32_23 : BitVec 32 := 4#32
  let v69 : BitVec 32 := Scalar.muli arg2 c4_i32_23
  let c0_i32_241 : BitVec 32 := 0#32
  let v615 : BitVec 32 := Scalar.addi v69 c0_i32_241
  let c256_i32_242 : BitVec 32 := 256#32
  let v616 : BitVec 32 := Scalar.muli v615 c256_i32_242
  v616
def k0_mult62 (i : grid0.Coords) : BitVec 32 :=
  let arg2 : BitVec 32 := BitVec.ofNat 32 (i 2).val
  let c4_i32_23 : BitVec 32 := 4#32
  let v69 : BitVec 32 := Scalar.muli arg2 c4_i32_23
  let c1_i32_245 : BitVec 32 := 1#32
  let v627 : BitVec 32 := Scalar.addi v69 c1_i32_245
  let c256_i32_246 : BitVec 32 := 256#32
  let v628 : BitVec 32 := Scalar.muli v627 c256_i32_246
  v628
def k0_mult63 (i : grid0.Coords) : BitVec 32 :=
  let arg2 : BitVec 32 := BitVec.ofNat 32 (i 2).val
  let c4_i32_23 : BitVec 32 := 4#32
  let v69 : BitVec 32 := Scalar.muli arg2 c4_i32_23
  let c2_i32_249 : BitVec 32 := 2#32
  let v640 : BitVec 32 := Scalar.addi v69 c2_i32_249
  let c256_i32_250 : BitVec 32 := 256#32
  let v641 : BitVec 32 := Scalar.muli v640 c256_i32_250
  v641
def k0_mult64 (i : grid0.Coords) : BitVec 32 :=
  let arg2 : BitVec 32 := BitVec.ofNat 32 (i 2).val
  let c4_i32_23 : BitVec 32 := 4#32
  let v69 : BitVec 32 := Scalar.muli arg2 c4_i32_23
  let c3_i32_253 : BitVec 32 := 3#32
  let v653 : BitVec 32 := Scalar.addi v69 c3_i32_253
  let c256_i32_254 : BitVec 32 := 256#32
  let v654 : BitVec 32 := Scalar.muli v653 c256_i32_254
  v654
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c56_i32 : BitVec 32 := 56#32
  let v2 : BitVec 32 := Scalar.addi c56_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffIdeal.lean ====
variable {F : FTy → Type} [FloatOps F] [Named F]
def κ : String → Option EReal := fun
  | "log2e" => some (((Real.log 2)⁻¹ : ℝ) : EReal)
  | "scale_log2e" => some ((8⁻¹ * (Real.log 2)⁻¹ : ℝ) : EReal)
  | _ => none
-- ==== Gdn.lean ====
abbrev S16384x13312 : Shape := ⟨2, ![16384, 13312]⟩
abbrev S16384x256 : Shape := ⟨2, ![16384, 256]⟩
abbrev S4x3072 : Shape := ⟨2, ![4, 3072]⟩
abbrev S8 : Shape := ⟨1, ![8]⟩
abbrev S128 : Shape := ⟨1, ![128]⟩
abbrev S4x3x1024 : Shape := ⟨3, ![4, 3, 1024]⟩
abbrev S3x4x1024 : Shape := ⟨3, ![3, 4, 1024]⟩
abbrev S_ : Shape := ⟨0, ![]⟩
abbrev S1x128 : Shape := ⟨2, ![1, 128]⟩
abbrev S16384x1024 : Shape := ⟨2, ![16384, 1024]⟩
abbrev S256x1024 : Shape := ⟨2, ![256, 1024]⟩
abbrev S256x128 : Shape := ⟨2, ![256, 128]⟩
abbrev S8x128x128 : Shape := ⟨3, ![8, 128, 128]⟩
abbrev S3x264x1024 : Shape := ⟨3, ![3, 264, 1024]⟩
abbrev S4x8x64 : Shape := ⟨3, ![4, 8, 64]⟩
abbrev S4x8x128 : Shape := ⟨3, ![4, 8, 128]⟩
abbrev S32x128x128 : Shape := ⟨3, ![32, 128, 128]⟩
abbrev S32x64x64 : Shape := ⟨3, ![32, 64, 64]⟩
abbrev S32x64x128 : Shape := ⟨3, ![32, 64, 128]⟩
abbrev S3x8x1024 : Shape := ⟨3, ![3, 8, 1024]⟩
abbrev S1x256x1024 : Shape := ⟨3, ![1, 256, 1024]⟩
abbrev S1x4x1024 : Shape := ⟨3, ![1, 4, 1024]⟩
abbrev S4x1024 : Shape := ⟨2, ![4, 1024]⟩
abbrev S1x1024 : Shape := ⟨2, ![1, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩
abbrev S128x256 : Shape := ⟨2, ![128, 256]⟩
abbrev S8x64 : Shape := ⟨2, ![8, 64]⟩
abbrev S1x8x64 : Shape := ⟨3, ![1, 8, 64]⟩
abbrev S8x128 : Shape := ⟨2, ![8, 128]⟩
abbrev S1x8x128 : Shape := ⟨3, ![1, 8, 128]⟩
abbrev S64x64 : Shape := ⟨2, ![64, 64]⟩
abbrev S64x128 : Shape := ⟨2, ![64, 128]⟩
abbrev S64x256 : Shape := ⟨2, ![64, 256]⟩
abbrev S64x1 : Shape := ⟨2, ![64, 1]⟩
abbrev S1x64 : Shape := ⟨2, ![1, 64]⟩
abbrev S1x1 : Shape := ⟨2, ![1, 1]⟩
abbrev S128x128 : Shape := ⟨2, ![128, 128]⟩
abbrev S128x64 : Shape := ⟨2, ![128, 64]⟩
abbrev S1x64x128 : Shape := ⟨3, ![1, 64, 128]⟩
abbrev S1x64x64 : Shape := ⟨3, ![1, 64, 64]⟩
abbrev S1x128x128 : Shape := ⟨3, ![1, 128, 128]⟩

abbrev nBuf : Space → Nat
  | .hbm => 18
  | .vmem => 31
  | .smem => 0
  | _ => 0

abbrev bufTy : (tb : Table) → Fin (tcTables nBuf tb) → BufTy
  | .hbm, ⟨0, _⟩ => ⟨S16384x13312, .bf16⟩
  | .hbm, ⟨1, _⟩ => ⟨S16384x256, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S4x3x1024, .f32⟩
  | .hbm, ⟨7, _⟩ => ⟨S3x4x1024, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S3x4x1024, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S8x128x128, .f32⟩
  | .local _ .vmem, ⟨19, _⟩ => ⟨S3x264x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x128, .f32⟩
  | .local _ .vmem, ⟨24, _⟩ => ⟨S256x128, .f32⟩
  | .local _ .vmem, ⟨25, _⟩ => ⟨S4x8x64, .f32⟩
  | .local _ .vmem, ⟨26, _⟩ => ⟨S4x8x128, .f32⟩
  | .local _ .vmem, ⟨27, _⟩ => ⟨S256x1024, .f32⟩
  | .local _ .vmem, ⟨28, _⟩ => ⟨S32x128x128, .bf16⟩
  | .local _ .vmem, ⟨29, _⟩ => ⟨S32x64x64, .bf16⟩
  | .local _ .vmem, ⟨30, _⟩ => ⟨S32x64x128, .bf16⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.InProjBody.lean ====
module

public import proofs.«01_k».proof.Proof.Gen.InProjIdeal.Frame
public import proofs.«01_k».proof.Proof.Gen.InProjIdeal.Skeleton
public import Idealize.ShloMosaic.Lib.Claim
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normalised rows, as the scratch holds them. -/
def hid (x : Vec F S2048x1024 .f32) (nw : Vec F S1x1024 .f32) : Vec F S2048x1024 .bf16 := k0_pay2 x nw

/-- The small product of the rows with the sixteen columns beside the main ones. -/
def small (x : Vec F S2048x1024 .f32) (nw : Vec F S1x1024 .f32) (wab : Vec F S1x16x1024 .f32) : Vec F S2048x256 .f32 :=
  k0_pay3 x nw (View.ld wab (Rect.unit (s := S1x16x1024) ![0, 0, 0] S1x8x1024.size inb_S1x16x1024_S1x8x1024_0_0_0))
    (View.ld wab (Rect.unit (s := S1x16x1024) ![0, 8, 0] S1x8x1024.size inb_S1x16x1024_S1x8x1024_0_8_0))

/-- The body at the first tile of a row block, on whole buffers: the normalised rows go to the scratch and the small
product to its buffer, then the tile's product is stored. -/
theorem run_first (c : Dev nD) (i : grid0.Coords) (x : Memref sig .tc .vmem S2048x1024 .f32) (hx : x.IsWhole) (nw : Memref sig .tc .vmem S1x1024 .f32) (hnw : nw.IsWhole) (w : Memref sig .tc .vmem S1x1024x1024 .f32) (hw : w.IsWhole) (wab : Memref sig .tc .vmem S1x16x1024 .f32) (hwab : wab.IsWhole) (o : Memref sig .tc .vmem S2048x1024 .bf16) (ho : o.IsWhole) (oab : Memref sig .tc .vmem S2048x256 .f32) (hoab : oab.IsWhole) (h : Memref sig .tc .vmem S2048x1024 .bf16) (hh : h.IsWhole) (hc : k0_cond1 i = 1#1) (Xx : Vec F S2048x1024 .f32) (Xnw : Vec F S1x1024 .f32) (Xw : Vec F S1x1024x1024 .f32) (Xwab : Vec F S1x16x1024 .f32)
    (E : Set ℕ) (K : PUnit → sProp 𝕄) :
    iprop(owns (c : Thread nD τ) x fullShare Xx ∗ owns (c : Thread nD τ) nw fullShare Xnw ∗ owns (c : Thread nD τ) w fullShare Xw ∗ owns (c : Thread nD τ) wab fullShare Xwab ∗ (∃ d, owns (c : Thread nD τ) o fullShare d) ∗ (∃ d, owns (c : Thread nD τ) oab fullShare d) ∗ (∃ d, owns (c : Thread nD τ) h fullShare d) ∗ (iprop(owns (c : Thread nD τ) x fullShare Xx ∗ owns (c : Thread nD τ) nw fullShare Xnw ∗ owns (c : Thread nD τ) w fullShare Xw ∗ owns (c : Thread nD τ) wab fullShare Xwab ∗ owns (c : Thread nD τ) o fullShare (k0_pay4 (hid Xx Xnw) Xw) ∗ owns (c : Thread nD τ) oab fullShare (small Xx Xnw Xwab) ∗ owns (c : Thread nD τ) h fullShare (hid Xx Xnw)) -∗ K ⟨⟩))
      ⊢ wp frame (wpE (defs₀ (F := F)) Variants.none c none) E (cc0_inproj i x hx nw hnw w hw wab hwab o ho oab hoab h hh) K := by
  simp only [cc0_inproj_eq_skeleton]; unfold cc0_inproj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := hx.eq_unread e0; obtain rfl := hnw.eq_unread e1; obtain rfl := hw.eq_unread e2; obtain rfl := hwab.eq_unread e3
  sl_exec (disch := first | sl_exact hc)
  sl_step
  iapply Hk
  isplitl [H0]
  · iexists _; isplitr; · ipureintro; exact hx.read_unread _
    iexact H0
  isplitl [H1]
  · iexists _; isplitr; · ipureintro; exact hnw.read_unread _
    iexact H1
  isplitl [H2]
  · iexists _; isplitr; · ipureintro; exact hw.read_unread _
    iexact H2
  isplitl [H3]
  · iexists _; isplitr; · ipureintro; exact hwab.read_unread _
    iexact H3
  isplitl [H4]
  · iexists _; isplitr
    swap; · iexact H4
    ipureintro
    delta run_first.sl.v3 run_first.sl.H6_1
    refine (View.read_writes_eq_canon _ _ _ (View.cover_of_tiled _ S2048x1024.size (by rfl))).trans ?_
    simp (disch := decide) only [hid, small, View.canon_cons_unit_lit', View.ld_unit_lit', View.readCov_unit_lit', View.readCov_cons_unit_lit', View.readAt_eq_ld, Memref.IsWhole.read_unread]

  isplitl [H5]
  · iexists _; isplitr
    swap; · iexact H5
    ipureintro
    refine (View.read_writes_eq_canon _ _ _ (View.cover_of_tiled _ S2048x256.size (by rfl))).trans ?_
    simp (disch := decide) only [hid, small, View.canon_cons_unit_lit', View.ld_unit_lit', View.readCov_unit_lit', View.readCov_cons_unit_lit', View.readAt_eq_ld, Memref.IsWhole.read_unread]

  · iexists _; isplitr
    swap; · iexact H6
    ipureintro
    delta run_first.sl.H6_1
    refine (View.read_writes_eq_canon _ _ _ (View.cover_of_tiled _ S2048x1024.size (by rfl))).trans ?_
    simp (disch := decide) only [hid, small, View.canon_cons_unit_lit', View.ld_unit_lit', View.readCov_unit_lit', View.readCov_cons_unit_lit', View.readAt_eq_ld, Memref.IsWhole.read_unread]

/-- The body at a later tile of a row block: the scratch is read as it stands and the tile's product is stored. -/
theorem run_next (c : Dev nD) (i : grid0.Coords) (x : Memref sig .tc .vmem S2048x1024 .f32) (hx : x.IsWhole) (nw : Memref sig .tc .vmem S1x1024 .f32) (hnw : nw.IsWhole) (w : Memref sig .tc .vmem S1x1024x1024 .f32) (hw : w.IsWhole) (wab : Memref sig .tc .vmem S1x16x1024 .f32) (hwab : wab.IsWhole) (o : Memref sig .tc .vmem S2048x1024 .bf16) (ho : o.IsWhole) (oab : Memref sig .tc .vmem S2048x256 .f32) (hoab : oab.IsWhole) (h : Memref sig .tc .vmem S2048x1024 .bf16) (hh : h.IsWhole) (hc : ¬ k0_cond1 i = 1#1) (Xx : Vec F S2048x1024 .f32) (Xnw : Vec F S1x1024 .f32) (Xw : Vec F S1x1024x1024 .f32) (Xwab : Vec F S1x16x1024 .f32) (Xh : Vec F S2048x1024 .bf16) (Xoab : Vec F S2048x256 .f32)
    (E : Set ℕ) (K : PUnit → sProp 𝕄) :
    iprop(owns (c : Thread nD τ) x fullShare Xx ∗ owns (c : Thread nD τ) nw fullShare Xnw ∗ owns (c : Thread nD τ) w fullShare Xw ∗ owns (c : Thread nD τ) wab fullShare Xwab ∗ (∃ d, owns (c : Thread nD τ) o fullShare d) ∗ owns (c : Thread nD τ) oab fullShare Xoab ∗ owns (c : Thread nD τ) h fullShare Xh ∗ (iprop(owns (c : Thread nD τ) x fullShare Xx ∗ owns (c : Thread nD τ) nw fullShare Xnw ∗ owns (c : Thread nD τ) w fullShare Xw ∗ owns (c : Thread nD τ) wab fullShare Xwab ∗ owns (c : Thread nD τ) o fullShare (k0_pay4 Xh Xw) ∗ owns (c : Thread nD τ) oab fullShare Xoab ∗ owns (c : Thread nD τ) h fullShare Xh) -∗ K ⟨⟩))
      ⊢ wp frame (wpE (defs₀ (F := F)) Variants.none c none) E (cc0_inproj i x hx nw hnw w hw wab hwab o ho oab hoab h hh) K := by
  simp only [cc0_inproj_eq_skeleton]; unfold cc0_inproj_skel
  unfold owns
  iintro ⟨⟨%f0, %e0, H0⟩, ⟨%f1, %e1, H1⟩, ⟨%f2, %e2, H2⟩, ⟨%f3, %e3, H3⟩, ⟨%d4, %f4, -, H4⟩, ⟨%f5, %e5, H5⟩, ⟨%f6, %e6, H6⟩, Hk⟩
  obtain rfl := hx.eq_unread e0; obtain rfl := hnw.eq_unread e1; obtain rfl := hw.eq_unread e2; obtain rfl := hwab.eq_unread e3
  obtain rfl := hh.eq_unread e6; obtain rfl := hoab.eq_unread e5
  sl_exec (disch := first | sl_exact hc)
  sl_step
  iapply Hk
  isplitl [H0]
  · iexists _; isplitr; · ipureintro; exact hx.read_unread _
    iexact H0
  isplitl [H1]
  · iexists _; isplitr; · ipureintro; exact hnw.read_unread _
    iexact H1
  isplitl [H2]
  · iexists _; isplitr; · ipureintro; exact hw.read_unread _
    iexact H2
  isplitl [H3]
  · iexists _; isplitr; · ipureintro; exact hwab.read_unread _
    iexact H3
  isplitl [H4]
  · iexists _; isplitr
    swap; · iexact H4
    ipureintro
    refine (View.read_writes_eq_canon _ _ _ (View.cover_of_tiled _ S2048x1024.size (by rfl))).trans ?_
    simp (disch := decide) only [hid, small, View.canon_cons_unit_lit', View.ld_unit_lit', View.readCov_unit_lit', View.readCov_cons_unit_lit', View.readAt_eq_ld, Memref.IsWhole.read_unread]

  isplitl [H5]
  · iexists _; isplitr; · ipureintro; exact hoab.read_unread _
    iexact H5
  iexists _; isplitr; · ipureintro; exact hh.read_unread _
  iexact H6

end Cert.InProjIdeal.Hand

end
-- ==== Proof.InProjRun.lean ====
module

public import proofs.«01_k».proof.Proof.Gen.InProjIdeal.Frame
public import proofs.«01_k».proof.Proof.Gen.InProjIdeal.Skeleton
public import proofs.«01_k».proof.Proof.Gen.InProjIdeal.Points
public import proofs.«01_k».proof.Proof.InProjBody
public import Idealize.ShloMosaic.Lib.Claim
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that point `n` works on: a row block is thirteen points. -/
def start (n : ℕ) : Fin cfg0.N := ⟨(n - n % 13) % 104, lt_of_lt_of_eq (Nat.mod_lt _ (by norm_num)) N_0.symm⟩

/-- The normalised rows of the row block point `n` is in. -/
def rows (c : Dev nD) (n : ℕ) : Vec F S2048x1024 .bf16 := hid (iblk m c 0 (start n)) (iblk m c 1 (start n))

/-- Its sixteen side columns, padded. -/
def sides (c : Dev nD) (n : ℕ) : Vec F S2048x256 .f32 := small (iblk m c 0 (start n)) (iblk m c 1 (start n)) (iblk m c 3 (start n))

theorem start_of_first (t : Fin cfg0.N) (h : t.val % 13 = 0) : start t.val = t := by
  have hN : t.val < 104 := lt_of_lt_of_eq t.isLt N_0
  exact Fin.ext (by show (t.val - t.val % 13) % 104 = t.val; omega)

theorem start_succ (n : ℕ) (h : (n + 1) % 13 ≠ 0) : start (n + 1) = start n := by
  exact Fin.ext (by show (n + 1 - (n + 1) % 13) % 104 = (n - n % 13) % 104; omega)

/-- The body's branch is taken at the first point of a row block. -/
theorem first_iff (t : Fin cfg0.N) : k0_cond1 (grid0.coords t) = 1#1 ↔ t.val % 13 = 0 :=
  (by decide +kernel : ∀ t : Fin grid0.N, k0_cond1 (grid0.coords t) = 1#1 ↔ t.val % 13 = 0) t

/-- The scratch of the normalised rows. -/
abbrev scr : Memref sig .tc .vmem S2048x1024 .bf16 := Memref.whole cc0_scratch0

/-- The core's memory outside the windows before point `n`: inside a row block the scratch holds its rows. -/
def hold (c : Dev nD) (n : ℕ) : sProp 𝕄 :=
  if n % 13 = 0 then iprop((∃ d, owns (c : Thread nD τ) scr fullShare d) ∗ (∃ r, prngReg c r))
  else iprop(owns (c : Thread nD τ) scr fullShare (rows m c n) ∗ (∃ r, prngReg c r))

/-- What the scratch holds forgotten. -/
theorem hold_any (c : Dev nD) (n : ℕ) : hold m c n ⊢ iprop((∃ d, owns (c : Thread nD τ) scr fullShare d) ∗ (∃ r, prngReg c r)) := by
  unfold hold; split
  · exact .rfl
  · iintro ⟨H, Hg⟩
    isplitl [H]; · iexists _; iexact H
    iexact Hg

/-- After a point the scratch holds the point's rows. -/
theorem hold_next (c : Dev nD) (t : Fin cfg0.N) :
    iprop(owns (c : Thread nD τ) scr fullShare (rows m c t.val) ∗ (∃ r, prngReg c r)) ⊢ hold m c (t.val + 1) := by
  unfold hold; split
  · iintro ⟨H, Hg⟩
    isplitl [H]; · iexists _; iexact H
    iexact Hg
  · rename_i h
    unfold rows; rw [start_succ _ h]

/-- The proof data: each input at its block; the main product of the point; the side columns of its row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t.val) (iblk m c 2 t)
    | ⟨5, _⟩ => sides m c t.val
  Φ n := hold m c n.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (rows m c t.val) (iblk m c 2 t) := by dsimp only [dats]
theorem after5 (c : Dev nD) (t : Fin cfg0.N) : (dats m 0 c).after 5 t = sides m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

abbrev buf0 (t : Fin cfg0.N) : Memref sig .tc .vmem S2048x1024 .f32 := win0_0.stage (cfg0.slots t 0)
abbrev buf1 (t : Fin cfg0.N) : Memref sig .tc .vmem S1x1024 .f32 := win0_1.stage (cfg0.slots t 1)
abbrev buf2 (t : Fin cfg0.N) : Memref sig .tc .vmem S1x1024x1024 .f32 := win0_2.stage (cfg0.slots t 2)
abbrev buf3 (t : Fin cfg0.N) : Memref sig .tc .vmem S1x16x1024 .f32 := win0_3.stage (cfg0.slots t 3)
abbrev buf4 (t : Fin cfg0.N) : Memref sig .tc .vmem S2048x1024 .bf16 := win0_4.stage (cfg0.slots t 4)
abbrev buf5 (t : Fin cfg0.N) : Memref sig .tc .vmem S2048x256 .f32 := win0_5.stage (cfg0.slots t 5)

/-- A window the body only reads is left at its block. -/
theorem leaves0 (c : Dev nD) (t : Fin cfg0.N) : (dats m 0 c).leavesExact 0 t = owns (c : Thread nD τ) (buf0 t) fullShare (iblk m c 0 t) := by
  unfold Dat.leavesExact; rw [show cfg0.idle 0 (grid0.coords t) = false from rfl, after0]
/-- A window the body only reads is left at its block. -/
theorem leaves1 (c : Dev nD) (t : Fin cfg0.N) : (dats m 0 c).leavesExact 1 t = owns (c : Thread nD τ) (buf1 t) fullShare (iblk m c 1 t) := by
  unfold Dat.leavesExact; rw [show cfg0.idle 1 (grid0.coords t) = false from rfl, after1]
/-- A window the body only reads is left at its block. -/
theorem leaves2 (c : Dev nD) (t : Fin cfg0.N) : (dats m 0 c).leavesExact 2 t = owns (c : Thread nD τ) (buf2 t) fullShare (iblk m c 2 t) := by
  unfold Dat.leavesExact; rw [show cfg0.idle 2 (grid0.coords t) = false from rfl, after2]
/-- A window the body only reads is left at its block. -/
theorem leaves3 (c : Dev nD) (t : Fin cfg0.N) : (dats m 0 c).leavesExact 3 t = owns (c : Thread nD τ) (buf3 t) fullShare (iblk m c 3 t) := by
  unfold Dat.leavesExact; rw [show cfg0.idle 3 (grid0.coords t) = false from rfl, after3]

/-- The main product's window is written at every point. -/
theorem leaves4 (c : Dev nD) (t : Fin cfg0.N) :
    (dats m 0 c).leavesExact 4 t = owns (c : Thread nD τ) (buf4 t) fullShare (k0_pay4 (rows m c t.val) (iblk m c 2 t)) := by
  unfold Dat.leavesExact; rw [show cfg0.idle 4 (grid0.coords t) = false from rfl, after4]

theorem idle5 (t : Fin cfg0.N) : cfg0.idle 5 (grid0.coords t) = !(k0_cond1 (grid0.coords t) == 1#1) := rfl

/-- Inside a row block the side columns' buffer still holds what its first point stored. -/
theorem before5 (c : Dev nD) : ∀ (n : ℕ) (hn : n < cfg0.N), n % 13 ≠ 0 → ∀ d, (dats m 0 c).before 5 ⟨n, hn⟩ d = sides m c n
  | 0, _, h, _ => absurd rfl h
  | n + 1, hn, h, d => by
    have hn' : n < cfg0.N := Nat.lt_of_succ_lt hn
    have hN : n + 1 < 104 := lt_of_lt_of_eq hn N_0
    have hfl : (cfg0.win 5).flush ⟨n, hn'⟩ = false := by
      rw [Bool.eq_false_iff]; intro hf
      have := (flush0_5 ⟨n, hn'⟩).mp hf
      change n % 13 = 12 at this; omega
    have es : sides m c (n + 1) = sides m c n := by unfold sides; rw [start_succ _ h]
    rw [(dats m 0 c).before_of_pos 5 ⟨n + 1, hn⟩ (Nat.succ_ne_zero n) ((cfg0.win 5).fetch_out rfl _),
      show (⟨(⟨n + 1, hn⟩ : Fin cfg0.N).val - 1, Nat.lt_of_le_of_lt (Nat.sub_le _ _) hn⟩ : Fin cfg0.N) = ⟨n, hn'⟩ from rfl,
      hfl, if_neg Bool.false_ne_true, es]
    unfold Dat.left
    by_cases h0 : n % 13 = 0
    · rw [show cfg0.idle 5 (cfg0.grid.coords ⟨n, hn'⟩) = false from by
        rw [idle5, (first_iff ⟨n, hn'⟩).mpr h0]; rfl]
      unfold Dat.kept
      rw [Pipeline.fill_of_clip_none 5 _ (fun _ => rfl) d ((dats m 0 c).after 5 _), Window.fill_cut, after5]
    · rw [show cfg0.idle 5 (cfg0.grid.coords ⟨n, hn'⟩) = true from by
        rw [idle5, Bool.not_eq_true', beq_eq_false_iff_ne]
        exact fun e => h0 ((first_iff ⟨n, hn'⟩).mp e)]
      exact before5 c n hn' h0 d

/-- The side columns' buffer at the row block's side columns is what the obligation asks, stored at this point or not. -/
theorem leaves5 (c : Dev nD) (t : Fin cfg0.N) :
    owns (c : Thread nD τ) (buf5 t) fullShare (sides m c t.val) ⊢ (dats m 0 c).leavesExact 5 t := by
  unfold Dat.leavesExact
  by_cases h0 : t.val % 13 = 0
  · rw [show cfg0.idle 5 (cfg0.grid.coords t) = false from by rw [idle5, (first_iff t).mpr h0]; rfl, after5]
  · rw [show cfg0.idle 5 (cfg0.grid.coords t) = true from by
      rw [idle5, Bool.not_eq_true', beq_eq_false_iff_ne]
      exact fun e => h0 ((first_iff t).mp e)]
    cases hf : (cfg0.win 5).flush t
    · iintro H
      iexists (sides m c t.val)
      rw [before5 m c t.val t.isLt h0]
      iexact H
    · rw [after5]

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ d, owns (c : Thread nD τ) (buf5 t) fullShare ((dats m 0 c).before 5 t d)))

/-- and what it hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 800000 in
/-- The body at any point: one of the two runs. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).Φ t.succ = hold m c (t.val + 1) from rfl, show (dats m 0 c).Φ t.castSucc = hold m c t.val from rfl,
    show (dats m 0 c).owesAt () t.succ = (dats m 0 c).owesAt () t.castSucc from rfl,
    leaves0, leaves1, leaves2, leaves3, leaves4]
  by_cases h0 : t.val % 13 = 0
  · have es := start_of_first t h0
    have er : rows m c t.val = hid (iblk m c 0 t) (iblk m c 1 t) := by unfold rows; rw [es]
    have ed : sides m c t.val = small (iblk m c 0 t) (iblk m c 1 t) (iblk m c 3 t) := by unfold sides; rw [es]
    have e5 := leaves5 m c t
    have en := hold_next m c t
    rw [ed] at e5; rw [er] at en; rw [er]
    iintro ⟨HS, Ho, ⟨%d0, H0⟩, ⟨%d1, H1⟩, ⟨%d2, H2⟩, ⟨%d3, H3⟩, ⟨%d4, H4⟩, ⟨%d5, H5⟩⟩
    ihave HS := (hold_any m c t.val) $$ HS
    icases HS with ⟨HS, Hg⟩
    iapply (run_first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · iapply en
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply e5; iexact H5
  · have e5 := leaves5 m c t
    have en := hold_next m c t
    have eh : hold m c t.val = iprop(owns (c : Thread nD τ) scr fullShare (rows m c t.val) ∗ (∃ r, prngReg c r)) := if_neg h0
    rw [eh]
    have eb : ∀ d, (dats m 0 c).before 5 t d = sides m c t.val := before5 m c t.val t.isLt h0
    simp only [eb]
    iintro ⟨⟨HS, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (fun h => h0 ((first_iff t).mp h)) (iblk m c 0 t) (iblk m c 1 t) (iblk m c 2 t) (iblk m c 3 t) (rows m c t.val) (sides m c t.val) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · iapply en
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply e5; iexact H5

theorem body_row (t : Fin cfg0.N) : defs₀ (F := F) .tc cfg0.body (cfg0.bodyArgs t (cfg0.slots t)) = bodyAt0 t := by
  unfold defs₀; rw [Defs.onTc_tc]

/-- The library's body obligation. -/
theorem body (c : Dev nD) : BodyObligation (dats (F := F) m 0 c) (defs₀ (F := F)) Variants.none () Set.univ := fun t => by
  rw [bigSep_W0, bigSep_W0, body_row]
  exact triple_restated (body_at m c t) rfl .rfl fun _ => .rfl

theorem hold_bound (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

set_option backward.isDefEq.respectTransparency.types false in
/-- The run of the whole program: what every array ends at, and every counter back at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body m c).loose) (hq := fun _ _ _ => rfl)
    (howed := fun _ _ => rfl) (V := V m) (hmain := hmain m Variants.none) (hA := A_eq m)
    (hin := fun c => by rw [hold_bound]; exact .rfl) (hout := fun c => by rw [hold_bound]; exact hold_any m c cfg0.N)

/-- The arguments end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The run with the two written arrays named. -/
theorem run_values : θ_run defs (onTc (τ := τ) (main (F := F))) ⟨m, fun _ => 0, ρ⟩ (fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 4, (h.1.1 c).1 5, h.2.1 c⟩)
    (θ_run_and (run_main m ρ) (unchanged m ρ))

end Cert.InProjIdeal.Hand

end
-- ==== Proof.InProjValue.lean ====
module

public import proofs.«01_k».proof.Proof.InProjRun
public import proofs.«01_k».proof.Proof.Gen.InProjRefIdeal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.InProjIdeal.Hand
open Cert.InProjIdeal Cert.InProjIdeal.Gen
variable (m : (ℓ : Loc nD τ sig) → Buf (Elt Ideal) ℓ)

/-- Which block every window places at grid point `t`; the two inputs of the rows at the start of the row block. -/
theorem idx : ∀ t : Fin cfg0.N, win0_0.index (start t.val) = ![t.val / 13, 0] ∧ win0_1.index (start t.val) = ![0, 0]
    ∧ win0_4.index t = ![t.val / 13, t.val % 13] ∧ win0_5.index t = ![t.val / 13, 0]
    ∧ cc0_transform_2 (grid0.coords t) = ![0, 1024 * (t.val % 13) + (if t.val % 13 < 3 then 0 else 16), 0]
    ∧ cc0_transform_3 (grid0.coords (start t.val)) = ![0, 3072, 0] ∧ t.val < 104 :=
  (by decide +kernel : ∀ t : Fin grid0.N, _)

open Cert.InProjRefIdeal.Read

theorem V0_eq (c : Dev nD) : V m c main_v0 = (transpose S4x13328x1024 [0, 2, 1] (m ((c : Thread nD τ).loc main_arg2)) transposes_S4x1024x13328_S4x13328x1024_0_2_1 : (⟨S4x13328x1024, .f32⟩ : BufTy).Contents (Elt Ideal)) := by
  unfold V hostOps0
  rfl

theorem V3_eq (c : Dev nD) : V m c main_v3 = (broadcastInDim S1x1024 ![1] bcast_S1024_S1x1024_1 (shapeCast S1024 (extractStridedSlice S1x1024 ![0, 0] (m ((c : Thread nD τ).loc main_arg1) : Vec Ideal S4x1024 .f32) slices_S4x1024_S1x1024_0_0 : Vec Ideal S1x1024 .f32) shapeCasts_S1x1024_S1024) : (⟨S1x1024, .f32⟩ : BufTy).Contents (Elt Ideal)) := by
  unfold V hostOps0
  rfl

/-- An entry of the norm weights' block. -/
theorem nw_at (c : Dev nD) (t : Fin cfg0.N) (x : Fin 1024) :
    iblk m c 1 (start t.val) (ix2 0 x) = m ((c : Thread nD τ).loc main_arg1) (ix2 (0 : Fin 4) x) := by
  have e : iblk m c 1 (start t.val) (ix2 0 x) = V m c main_v3 (ix2 (0 : Fin 1) x) := by
    blk_point [iblk, idx t]
  rw [e, V3_eq]
  pointwise []

/-- An entry of the wide weights' block at grid point `t`: the column skips the sixteen beside the main ones. -/
theorem w_at (c : Dev nD) (t : Fin cfg0.N) (b : Fin 1024) (x : Fin 1024) (h : 1024 * (t.val % 13) + (if t.val % 13 < 3 then 0 else 16) + b.val < 13328) :
    iblk m c 2 t (ix3 0 b x) = m ((c : Thread nD τ).loc main_arg2) (ix3 (0 : Fin 4) x ⟨1024 * (t.val % 13) + (if t.val % 13 < 3 then 0 else 16) + b.val, h⟩) := by
  have e : iblk m c 2 t (ix3 0 b x) = V m c main_v0 (ix3 (0 : Fin 4) ⟨1024 * (t.val % 13) + (if t.val % 13 < 3 then 0 else 16) + b.val, h⟩ x) := by
    unfold iblk
    refine congrArg (V m c main_v0) (funext fun a => Fin.ext ?_)
    have hi := (idx t).2.2.2.2.1
    refine (win0_2.rect_emb_val_off t (ix3 (0 : Fin 1) b x) a).trans ?_
    show cc0_transform_2 (grid0.coords t) a + (ix3 (0 : Fin 1) b x a).val = _
    rw [hi]
    fin_cases a
    · rfl
    · rfl
    · exact Nat.zero_add _
  rw [e, V0_eq]
  pointwise []

/-- An entry of the sixteen side columns' weights. -/
theorem wab_at (c : Dev nD) (t : Fin cfg0.N) (b : Fin 16) (x : Fin 1024) :
    iblk m c 3 (start t.val) (ix3 0 b x) = m ((c : Thread nD τ).loc main_arg2) (ix3 (0 : Fin 4) x ⟨3072 + b.val, by omega⟩) := by
  have e : iblk m c 3 (start t.val) (ix3 0 b x) = V m c main_v0 (ix3 (0 : Fin 4) ⟨3072 + b.val, by omega⟩ x) := by
    unfold iblk
    refine congrArg (V m c main_v0) (funext fun a => Fin.ext ?_)
    have hi := (idx t).2.2.2.2.2.1
    refine (win0_3.rect_emb_val_off (start t.val) (ix3 (0 : Fin 1) b x) a).trans ?_
    show cc0_transform_3 (grid0.coords (start t.val)) a + (ix3 (0 : Fin 1) b x a).val = _
    rw [hi]
    fin_cases a
    · rfl
    · rfl
    · exact Nat.zero_add _
  rw [e, V0_eq]
  pointwise []

set_option maxHeartbeats 4000000 in
/-- The wide written array is the reference's first result. -/
theorem final4 (c : Dev nD) : (dats m 0 c).arrAt 4 (cfgs 0).N
    = val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after4]
  unfold rows hid
  have hy : ((((View.whole main_v4_0).slice (win0_4.rect t)).emb y) 1).val = 1024 * (t.val % 13) + (y 1).val := by
    refine (win0_4.rect_emb_val t y 1).trans ?_
    rw [(idx t).2.2.1]
    show t.val % 13 * 1024 + _ = _
    omega
  have hb : (y 1).val < 1024 := (y 1).isLt
  have ht : t.val % 13 < 13 := Nat.mod_lt _ (by norm_num)
  have hw := fun x : Fin 1024 => w_at m c t (y 1) x (by split <;> omega)
  have hn := nw_at m c t
  pointwise [k0_pay4, k0_pay2, k0_pay1, val_main_v22, val_main_v21, val_main_v20, val_main_v19, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [hw, hn]
  blk_point [iblk, V, idx t]
  all_goals split <;> omega

set_option maxHeartbeats 4000000 in
/-- The padded written array is the reference's second result. -/
theorem final5 (c : Dev nD) : (dats m 0 c).arrAt 5 (cfgs 0).N
    = val_main_v25 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after5]
  unfold sides small
  have hn := nw_at m c t
  have hw := wab_at m c t
  pointwise [k0_pay3, k0_pay1, val_main_v25, val_main_v24, val_main_v23, val_main_v18, val_main_cst_2, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [hw, hn]
  have hy : ((((View.whole main_v4_1).slice (win0_5.rect t)).emb y) 1).val = (y 1).val := by
    refine (win0_5.rect_emb_val t y 1).trans ?_
    rw [(idx t).2.2.2.1]
    exact (congrArg (· + (y 1).val) (Nat.zero_mul _)).trans (Nat.zero_add _)
  by_cases h1 : (y 1).val < 8
  · rw [dif_pos (hy.trans_lt h1)]
    simp only [dif_pos h1]
    blk_point [iblk, V, idx t]
  · rw [dif_neg (fun h => h1 (hy ▸ h))]
    simp only [dif_neg h1]
    by_cases h2 : (y 1).val - 8 < 120
    · rw [dif_pos (by rw [hy]; exact h2)]
      simp only [dif_pos h2, mul_zero, Finset.sum_const_zero]
    · rw [dif_neg (by rw [hy]; exact h2)]
      simp only [dif_neg h2]
      by_cases h3 : (y 1).val - 8 - 120 < 8
      · rw [dif_pos (by rw [hy]; exact h3)]
        simp only [dif_pos h3]
        blk_point [iblk, V, idx t]
      · rw [dif_neg (by rw [hy]; exact h3)]
        simp only [dif_neg h3, mul_zero, Finset.sum_const_zero]
end Cert.InProjIdeal.Hand
end
-- ==== Proof.MemKVValue.lean ====
module

public import proofs.«01_k».proof.Proof.Gen.MemKVIdeal.Value
public import proofs.«01_k».proof.Proof.Gen.MemKVRefIdeal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MemKVIdeal.Value
open Cert.MemKVIdeal Cert.MemKVIdeal.Gen
variable (m : (ℓ : Loc nD τ sig) → Buf (Elt Ideal) ℓ)

/-- Which block every window places at grid point `t`. -/
theorem idx : ∀ t : Fin cfg0.N, win0_0.index t = ![0, 0] ∧ win0_1.index t = ![0, 0] ∧ win0_2.index t = ![0, t.val] ∧ win0_3.index t = ![0, t.val] ∧ t.val < 2 :=
  (by decide +kernel : ∀ t : Fin grid0.N, _)

/-- The memory rows as the call finds them: the four groups one under the other. -/
theorem rows_eq (c : Dev nD) : V m c main_v0 = (shapeCast S1024x1024 (m ((c : Thread nD τ).loc main_arg0) : Vec Ideal S4x256x1024 .f32) shapeCasts_S4x256x1024_S1024x1024 : (⟨S1024x1024, .f32⟩ : BufTy).Contents (Elt Ideal)) := by
  unfold V hostOps0
  rfl

/-- An entry of the memory rows' block. -/
theorem row_at (c : Dev nD) (t : Fin cfg0.N) (i x : Fin 1024) :
    iblk m c 0 t (ix2 i x) = m ((c : Thread nD τ).loc main_arg0) (ix3 (⟨i.val / 256, by omega⟩ : Fin 4) ⟨i.val % 256, by omega⟩ x) := by
  have e : iblk m c 0 t (ix2 i x) = V m c main_v0 (ix2 i x) := by
    blk_point [iblk, idx t]
  rw [e, rows_eq]
  refine congrArg (m ((c : Thread nD τ).loc main_arg0)) (Shape.reshapeEquiv_eq_of_rowMajor shapeCasts_S4x256x1024_S1024x1024 ?_)
  rw [Shape.rowMajor_val_three, Shape.rowMajor_val_two]
  show (i.val / 256 * 256 + i.val % 256) * 1024 + x.val = i.val * 1024 + x.val
  rw [Nat.div_add_mod']

open Cert.MemKVRefIdeal.Read

set_option maxHeartbeats 4000000 in
/-- The written array is the reference's result. -/
theorem final (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have hr := fun x => row_at m c t (y 0) x
  pointwise [k0_pay1, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [hr]
  blk_point [iblk, V, idx t]
end Cert.MemKVIdeal.Value
end
-- ==== Proof.MergeHead.lean ====
module

public import proofs.«01_k».proof.Proof.Gen.MergeIdeal.Value
public import proofs.«01_k».proof.Proof.Gen.MergeRefIdeal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
variable (m : (ℓ : Loc nD τ sig) → Buf (Elt Ideal) ℓ)

/-- One query row's scaled score against key row `x`. -/
def score (q : Fin 256 → EReal) (K : Fin 256 → Fin 256 → EReal) (x : Fin 256) : EReal :=
  (∑ d, q d * K x d) * Ideal.ofBits .f32 0x3D800000#32

/-- The largest of a row of scores. -/
def top (s : Fin 256 → EReal) : EReal := Finset.fold max (Ideal.ofBits .f32 0xFF800000#32) s Finset.univ

/-- One column of one head's softmax attention over the 256 memory rows. -/
def att (q : Fin 256 → EReal) (K : Fin 256 → Fin 256 → EReal) (V : Fin 256 → EReal) : EReal :=
  ∑ x, Ideal.div (Ideal.exp (score q K x - top (score q K))) (∑ x', Ideal.exp (score q K x' - top (score q K))) * V x

/-- Attention depends on its rows only through their entries. -/
theorem att_congr {q q' : Fin 256 → EReal} {K K' : Fin 256 → Fin 256 → EReal} {V V' : Fin 256 → EReal} (hq : ∀ d, q d = q' d) (hK : ∀ x d, K x d = K' x d) (hV : ∀ x, V x = V' x) :
    att q K V = att q' K' V' := by
  rw [funext hq, funext fun x => funext (hK x), funext hV]

/-- The head's block computation is `att` row by row. -/
theorem head_at (q : FVec Ideal S512x256 .bf16) (k v : FVec Ideal S256x256 .bf16) (y : S512x256.Idx) :
    k0_pay2 (F := Ideal) q k v y = att (fun d => q (ix2 (y 0) d)) (fun x d => k (ix2 x d)) (fun x => v (ix2 x (y 1))) := by
  pointwise [k0_pay2]
  rfl

/-- The four heads side by side. -/
theorem pay5_eq (h0 h1 : FVec Ideal S512x256 .f32) (q2 : FVec Ideal S512x256 .bf16) (k2 v2 : FVec Ideal S256x256 .bf16) (q3 : FVec Ideal S512x256 .bf16) (k3 v3 : FVec Ideal S256x256 .bf16) :
    k0_pay5 (F := Ideal) h0 h1 q2 k2 v2 q3 k3 v3 = concatenate S512x1024 1 [⟨S512x256, h0⟩, ⟨S512x256, h1⟩, ⟨S512x256, k0_pay2 (F := Ideal) q2 k2 v2⟩, ⟨S512x256, k0_pay2 (F := Ideal) q3 k3 v3⟩] concatenates_S512x256_S512x256_S512x256_S512x256_S512x1024_d1 := rfl

/-- The second head's payload is the first's. -/
theorem pay3_eq (q : FVec Ideal S512x256 .bf16) (k v : FVec Ideal S256x256 .bf16) : k0_pay3 (F := Ideal) q k v = k0_pay2 (F := Ideal) q k v := rfl

/-- The kernel's four heads, each read from its 256 columns of the query, key and value blocks, are `att`
of the columns' own head. -/
theorem heads_at (q : FVec Ideal S512x1024 .bf16) (k v : FVec Ideal S256x1024 .bf16) (y : S512x1024.Idx) :
    k0_pay5 (F := Ideal) (k0_pay2 (F := Ideal) (View.ld q r0_0) (View.ld k r0_1) (View.ld v r0_1)) (k0_pay3 (F := Ideal) (View.ld q r0_2) (View.ld k r0_3) (View.ld v r0_3))
      (View.ld q r0_4) (View.ld k r0_5) (View.ld v r0_5) (View.ld q r0_6) (View.ld k r0_7) (View.ld v r0_7) y
    = att (fun d => q (ix2 (y 0) ⟨256 * ((y 1).val / 256) + d.val, by have := (y 1).isLt; have := d.isLt; simp at *; omega⟩))
        (fun x d => k (ix2 x ⟨256 * ((y 1).val / 256) + d.val, by have := (y 1).isLt; have := d.isLt; simp at *; omega⟩)) (fun x => v (ix2 x (y 1))) := by
  rw [pay5_eq, pay3_eq]
  pointwise
  simp only [head_at]
  have hy := (y 1).isLt
  simp only [] at hy
  split_ifs with h0 h1 h2
  all_goals
    refine att_congr (fun d => ?_) (fun x d => ?_) (fun x => ?_)
    all_goals (blk_ext [View.ld] <;> (simp [LoadRect.idx, Rect.unit] <;> omega))
end Cert.MergeIdeal.Value
end
-- ==== Proof.MergeRefHead.lean ====
module

public import proofs.«01_k».proof.Proof.MergeHead
public import proofs.«01_k».proof.Proof.Gen.MergeRefIdeal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
variable (m : (ℓ : Loc nD τ sig) → Buf (Elt Ideal) ℓ)

open Cert.MergeRefIdeal.Read

variable (x1 : (⟨Cert.MergeRefIdeal.S16384x13312, .bf16⟩ : BufTy).Contents (Elt Ideal)) (x4 : (⟨Cert.MergeRefIdeal.S1024x2048, .bf16⟩ : BufTy).Contents (Elt Ideal))

/-- The query row of batch `b`, head `h`, position `s`. -/
def qrow (b h : Fin 4) (s : Fin 4096) (d : Fin 256) : EReal :=
  (x1 : FVec Ideal S16384x13312 .bf16) (ix2 ⟨4096 * b.val + s.val, by omega⟩ ⟨8192 + (256 * h.val + d.val), by omega⟩)

/-- The memory keys of batch `b`, head `h`. -/
def krow (b h : Fin 4) (x d : Fin 256) : EReal :=
  (x4 : FVec Ideal S1024x2048 .bf16) (ix2 ⟨256 * b.val + x.val, by omega⟩ ⟨256 * h.val + d.val, by omega⟩)

/-- The memory values of batch `b`, head `h`. -/
def vrow (b h : Fin 4) (x d : Fin 256) : EReal :=
  (x4 : FVec Ideal S1024x2048 .bf16) (ix2 ⟨256 * b.val + x.val, by omega⟩ ⟨1024 + (256 * h.val + d.val), by omega⟩)

/-- The scaled-attention query the reference reads. -/
theorem v15_at (b h : Fin 4) (s : Fin 4096) (d : Fin 256) : val_main_v15 (F := Ideal) x1 (ix4 b s h d) = qrow x1 b h s d := by
  rw [val_main_v15_apply, val_main_v1_apply, val_main_v0_apply]
  unfold qrow
  refine congrArg x1 ?_
  funext a
  match a with
  | ⟨0, _⟩ => refine Fin.ext ?_; simp; omega
  | ⟨1, _⟩ => refine Fin.ext ?_; simp; omega

/-- The keys the reference reads. -/
theorem v13_at (b h : Fin 4) (x d : Fin 256) : val_main_v13 (F := Ideal) x4 (ix4 b x h d) = krow x4 b h x d := by
  rw [val_main_v13_apply, val_main_v11_apply, val_main_v10_apply]
  unfold krow
  refine congrArg x4 ?_
  funext a
  match a with
  | ⟨0, _⟩ => refine Fin.ext ?_; simp; omega
  | ⟨1, _⟩ => refine Fin.ext ?_; simp; omega

/-- The values the reference reads. -/
theorem v14_at (b h : Fin 4) (x d : Fin 256) : val_main_v14 (F := Ideal) x4 (ix4 b x h d) = vrow x4 b h x d := by
  rw [val_main_v14_apply, val_main_v12_apply, val_main_v10_apply]
  unfold vrow
  refine congrArg x4 ?_
  funext a
  match a with
  | ⟨0, _⟩ => refine Fin.ext ?_; simp; omega
  | ⟨1, _⟩ => refine Fin.ext ?_; simp; omega

/-- The reference's scaled scores. -/
theorem v18_at (b h : Fin 4) (s : Fin 4096) (x : Fin 256) :
    val_main_v18 (F := Ideal) x1 x4 (ix4 b h s x) = score (qrow x1 b h s) (krow x4 b h) x := by
  rw [val_main_v18_apply, val_main_v16_apply, val_main_v17_apply, val_main_cst_apply]
  unfold score
  refine congrArg₂ (· * ·) (Finset.sum_congr rfl fun d _ => ?_) rfl
  rw [← v15_at, ← v13_at]
  rfl

/-- A host maximum over the last of four axes, as a fold over that axis. -/
theorem hostMax (v : FVec Ideal Cert.MergeRefIdeal.S4x4x4096x256 .f32) (c0 : FVec Ideal Cert.MergeRefIdeal.S_ .f32) (j : Cert.MergeRefIdeal.S4x4x4096.Idx) :
    Host.reduce FloatOps.maximumf v c0 Cert.MergeRefIdeal.Gen.reducesTo_S4x4x4096x256_S4x4x4096_d3 Cert.MergeRefIdeal.Gen.h_S_ j
      = Finset.univ.fold max (c0 (Shape.Idx.first Cert.MergeRefIdeal.Gen.h_S_)) fun k : Fin 256 => v (ix4 (j 0) (j 1) (j 2) k) := by
  simp only [pointwise]

/-- The row maximum the reference subtracts. -/
theorem v21_at (b h : Fin 4) (s : Fin 4096) :
    val_main_v21 (F := Ideal) x1 x4 (ix3 b h s) = top (score (qrow x1 b h s) (krow x4 b h)) := by
  rw [val_main_v21_apply, val_main_v20_apply, val_main_cst_1_apply]
  have h19 : val_main_v19 (F := Ideal) x1 x4 (ix3 b h s) = top (score (qrow x1 b h s) (krow x4 b h)) := by
    unfold val_main_v19 top
    refine (hostMax _ _ _).trans ?_
    refine Finset.fold_congr fun x _ => ?_
    exact v18_at x1 x4 b h s x
  rw [h19]
  show max _ _ = _
  refine max_eq_right ?_
  unfold top
  exact (Finset.le_fold_max _).2 (Or.inl le_rfl)

/-- The exponentials. -/
theorem v25_at (b h : Fin 4) (s : Fin 4096) (x : Fin 256) :
    val_main_v25 (F := Ideal) x1 x4 (ix4 b h s x) = Ideal.exp (score (qrow x1 b h s) (krow x4 b h) x - top (score (qrow x1 b h s) (krow x4 b h))) := by
  rw [val_main_v25_apply, val_main_v24_apply, v18_at, val_main_v23_apply, val_main_v22_apply]
  have e : val_main_v21 (F := Ideal) x1 x4 (idx_main_v22 (idx_main_v23 (ix4 b h s x))) = top (score (qrow x1 b h s) (krow x4 b h)) :=
    (congrArg (val_main_v21 (F := Ideal) x1 x4) (by funext a; match a with | ⟨0, _⟩ => rfl | ⟨1, _⟩ => rfl | ⟨2, _⟩ => rfl)).trans (v21_at x1 x4 b h s)
  rw [e]
  rfl

/-- The softmax weights. -/
theorem v29_at (b h : Fin 4) (s : Fin 4096) (x : Fin 256) :
    val_main_v29 (F := Ideal) x1 x4 (ix4 b h s x) = Ideal.div (Ideal.exp (score (qrow x1 b h s) (krow x4 b h) x - top (score (qrow x1 b h s) (krow x4 b h))))
      (∑ x', Ideal.exp (score (qrow x1 b h s) (krow x4 b h) x' - top (score (qrow x1 b h s) (krow x4 b h)))) := by
  rw [val_main_v29_apply, v25_at, val_main_v28_apply, val_main_v27_apply, val_main_v26_apply, val_main_cst_2_apply]
  refine congrArg (Ideal.div _) ?_
  have e0 : (FloatOps.ofBits FTy.f32 0#32 : Ideal .f32) = (0 : EReal) := Ideal.ofBits_zero_f32
  rw [e0, zero_add]
  refine Finset.sum_congr rfl fun x' _ => ?_
  refine Eq.trans (congrArg (val_main_v25 (F := Ideal) x1 x4) ?_) (v25_at x1 x4 b h s x')
  funext a
  match a with | ⟨0, _⟩ => rfl | ⟨1, _⟩ => rfl | ⟨2, _⟩ => rfl | ⟨3, _⟩ => rfl

/-- The weighted sum over the memory rows. -/
theorem v30_at (b h : Fin 4) (s : Fin 4096) (d : Fin 256) :
    val_main_v30 (F := Ideal) x1 x4 (ix4 b h d s) = att (qrow x1 b h s) (krow x4 b h) (fun x => vrow x4 b h x d) := by
  rw [val_main_v30_apply]
  unfold att
  refine Finset.sum_congr rfl fun x _ => ?_
  rw [mul_comm, ← v29_at]
  refine congrArg₂ (· * ·) (congrArg (val_main_v29 (F := Ideal) x1 x4) ?_) (Eq.trans (congrArg (val_main_v14 (F := Ideal) x4) ?_) (v14_at x4 b h x d))
  · funext a
    match a with | ⟨0, _⟩ => rfl | ⟨1, _⟩ => rfl | ⟨2, _⟩ => rfl | ⟨3, _⟩ => rfl
  · funext a
    match a with | ⟨0, _⟩ => rfl | ⟨1, _⟩ => rfl | ⟨2, _⟩ => rfl | ⟨3, _⟩ => rfl

/-- The reference's attention at a row and column of the flat array is `att` of that batch, head and position. -/
theorem v32_at (i : S16384x1024.Idx) :
    val_main_v32 (F := Ideal) x1 x4 i = att (qrow x1 ⟨(i 0).val / 4096, by have := (i 0).isLt; simp at this; omega⟩ ⟨(i 1).val / 256, by have := (i 1).isLt; simp at this; omega⟩ ⟨(i 0).val % 4096, by omega⟩)
      (krow x4 ⟨(i 0).val / 4096, by have := (i 0).isLt; simp at this; omega⟩ ⟨(i 1).val / 256, by have := (i 1).isLt; simp at this; omega⟩)
      (fun x => vrow x4 ⟨(i 0).val / 4096, by have := (i 0).isLt; simp at this; omega⟩ ⟨(i 1).val / 256, by have := (i 1).isLt; simp at this; omega⟩ x ⟨(i 1).val % 256, by omega⟩) := by
  rw [val_main_v32_apply, val_main_v31_apply, ← v30_at]
  refine congrArg _ ?_
  funext a
  match a with
  | ⟨0, _⟩ => refine Fin.ext ?_; have h0 := (i 0).isLt; have h1 := (i 1).isLt; simp at h0 h1 ⊢; omega
  | ⟨1, _⟩ => refine Fin.ext ?_; have h0 := (i 0).isLt; have h1 := (i 1).isLt; simp at h0 h1 ⊢; omega
  | ⟨2, _⟩ => refine Fin.ext ?_; have h0 := (i 0).isLt; have h1 := (i 1).isLt; simp at h0 h1 ⊢; omega
  | ⟨3, _⟩ => refine Fin.ext ?_; have h0 := (i 0).isLt; have h1 := (i 1).isLt; simp at h0 h1 ⊢; omega
end Cert.MergeIdeal.Value
end
-- ==== Proof.MergeValue.lean ====
module

public import proofs.«01_k».proof.Proof.MergeRefHead
public import proofs.«01_k».proof.Proof.Gen.MergeRefIdeal.Read
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
variable (m : (ℓ : Loc nD τ sig) → Buf (Elt Ideal) ℓ)

/-- Which block every window places at grid point `t`. -/
theorem idx : ∀ t : Fin cfg0.N, win0_0.index t = ![t.val, 0] ∧ win0_1.index t = ![t.val, 0] ∧ win0_2.index t = ![t.val, 0] ∧ win0_3.index t = ![t.val, 8] ∧ win0_4.index t = ![t.val, 9] ∧ win0_5.index t = ![t.val, 10] ∧ win0_6.index t = ![t.val, 11] ∧ win0_7.index t = ![t.val, 12] ∧ win0_8.index t = ![t.val / 8, 0] ∧ win0_9.index t = ![t.val / 8, 1] ∧ win0_10.index t = ![0, 0] ∧ win0_11.index t = ![0, 0] ∧ win0_12.index t = ![0, 0] ∧ win0_13.index t = ![0, 0] ∧ win0_14.index t = ![0, 0] ∧ win0_15.index t = ![t.val, 0] ∧ t.val < 32 :=
  (by decide +kernel : ∀ t : Fin grid0.N, _)

open Cert.MergeRefIdeal.Read

/-- The attention block the reference has at grid point `t`'s rows. -/
def ocblk (c : Dev nD) (t : Fin cfg0.N) : FVec Ideal S512x1024 .f32 := fun y =>
  (val_main_v32 (F := Ideal) (m ((c : Thread nD τ).loc main_arg1)) (m ((c : Thread nD τ).loc main_arg4)) : FVec Ideal S16384x1024 .f32)
    (ix2 ⟨512 * t.val + (y 0).val, by have := (idx t).2.2.2.2.2.2.2.2.2.2.2.2.2.2.2.2; have h := (y 0).isLt; simp at h; omega⟩ ⟨(y 1).val, (y 1).isLt⟩)

/-- The kernel's attention block at `t` is the reference's attention on these 512 rows. -/
theorem oc_eq (c : Dev nD) (t : Fin cfg0.N) :
    k0_pay5 (F := Ideal) (k0_pay2 (F := Ideal) (View.ld (iblk m c 3 t) r0_0) (View.ld (iblk m c 8 t) r0_1) (View.ld (iblk m c 9 t) r0_1)) (k0_pay3 (F := Ideal) (View.ld (iblk m c 3 t) r0_2) (View.ld (iblk m c 8 t) r0_3) (View.ld (iblk m c 9 t) r0_3))
      (View.ld (iblk m c 3 t) r0_4) (View.ld (iblk m c 8 t) r0_5) (View.ld (iblk m c 9 t) r0_5) (View.ld (iblk m c 3 t) r0_6) (View.ld (iblk m c 8 t) r0_7) (View.ld (iblk m c 9 t) r0_7)
    = ocblk m c t := by
  funext y
  refine (heads_at _ _ _ y).trans ?_
  unfold ocblk
  rw [v32_at]
  refine att_congr (fun d => ?_) (fun x d => ?_) (fun x => ?_)
  · unfold qrow
    blk_ext [iblk, V, idx t]
  · unfold krow
    blk_ext [iblk, V, idx t]
  · unfold vrow
    blk_ext [iblk, V, idx t]

set_option maxHeartbeats 4000000 in
/-- The written array is the reference's result. -/
theorem final (c : Dev nD) : (dats m 0 c).arrAt 15 (cfgs 0).N
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t _ y => ?_
  blk_simp
  rw [after0_15]; frame_out
  refine (congrArg (fun o => k0_pay1 (F := Ideal) (k0_pay7 (F := Ideal) (k0_pay4 (F := Ideal) (iblk m c 4 t)) o (k0_pay6 (F := Ideal)))
    (k0_pay8 (F := Ideal) (iblk m c 5 t) (iblk m c 1 t) (iblk m c 10 t) (iblk m c 6 t) (iblk m c 2 t) (iblk m c 11 t))
    (iblk m c 7 t) (iblk m c 12 t) (iblk m c 13 t) (iblk m c 0 t) (iblk m c 14 t) y) (oc_eq m c t)).trans ?_
  pointwise [k0_pay1, k0_pay4, k0_pay6, k0_pay7, k0_pay8, val_main_v68, val_main_v67, val_main_v66, val_main_v65, val_main_v64, val_main_v63, val_main_v62, val_main_v61, val_main_v60, val_main_cst_7, val_main_v59, val_main_v58, val_main_cst_6, val_main_v57, val_main_v56, val_main_cst_5, val_main_v55, val_main_v54, val_main_v53, val_main_v52, val_main_v51, val_main_v50, val_main_v49, val_main_v48, val_main_v47, val_main_v46, val_main_v45, val_main_v44, val_main_v43, val_main_v42, val_main_v41, val_main_v40, val_main_cst_4, val_main_v39, val_main_v38, val_main_cst_3, val_main_v37, val_main_v36, val_main_v35, val_main_v34, val_main_v33, val_main_call0_v5, val_main_call0_v4, val_main_call0_cst_0, val_main_call0_v3, val_main_call0_v2, val_main_call0_cst, val_main_call0_v1, val_main_call0_v0, val_main_v9, val_main_v8, val_main_v7, val_main_v6, val_main_v5, val_main_v4, val_main_v3, val_main_v2]
  have z (a : EReal) : 0 - a = -a := by rw [sub_eq_add_neg, zero_add]
  unfold ocblk
  simp only [z]
  blk_point [iblk, V, idx t]
end Cert.MergeIdeal.Value
end
-- ==== Proof.DiffIdealBodyA.lean ====
module

public import proofs.«01_k».proof.Proof.Gen.DiffIdeal.Loops
public import proofs.«01_k».proof.Proof.Gen.DiffIdeal.Points
public import Idealize.ShloMosaic.Lib.Pipeline.Kit

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The word the body's first branch tests: the query tile is the first one. -/
abbrev firstTile (i : grid0.Coords) : BitVec 1 :=
  Scalar.cmpi .ne (Scalar.extui (Scalar.cmpi .eq (BitVec.ofNat 32 (i 2).val) 0#32) : BitVec 32) 0#32

set_option maxHeartbeats 4000000 in
/-- The body on whole staging buffers at the first query tile: the transposed values are stored. What each written buffer ends with is the run's own find. -/
@[irreducible] def runA (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1024x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S144x4096 .bf16) (harg11 : arg11.IsWhole) (arg12 : Memref sig .tc .vmem S144x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hc0 : firstTile i = 1#1) (hc1 : ¬ k0_cond2 i = 1#1) :
    Σ' (Y10 : BufTy.Contents (Elt F) arg10.view.ty) (Y11 : BufTy.Contents (Elt F) arg11.view.ty) (Y12 : BufTy.Contents (Elt F) arg12.view.ty) (Y13 : BufTy.Contents (Elt F) arg13.view.ty) (Y14 : BufTy.Contents (Elt F) arg14.view.ty) (Y15 : BufTy.Contents (Elt F) arg15.view.ty), { Y16 : BufTy.Contents (Elt F) arg16.view.ty // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp frame (wpE (defs₀ (F := F)) Variants.none (c : Thread nD τ) none) E (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (arg15.view.loc (c : Thread nD τ) ↦[arg15.view.set]{fullShare} Y15) ∗ (arg16.view.loc (c : Thread nD τ) ↦[arg16.view.set]{fullShare} Y16))) } := by
  refine ⟨?_, ?_, ?_, ?_, ?_, ?_, ?_, fun E => ?run⟩
  case run =>
    simp only [cc0_diffattn_eq_skeleton]; unfold cc0_diffattn_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    iintro ⟨H3, H4, H5, H6, H7, H8, H9, H10, H11, H12, H13, H14, H15, H16⟩
    sl_exec (disch := first | sl_exact hc0 | sl_exact hc1)
    sl_step
    sl_close

end Cert.DiffIdeal.Hand

end
-- ==== Proof.DiffIdealBodyB.lean ====
module

public import proofs.«01_k».proof.Proof.DiffIdealBodyA

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body on whole staging buffers at an odd query tile: the four-block branch is taken. What each written buffer ends with is the run's own find. -/
@[irreducible] def runB (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1024x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S144x4096 .bf16) (harg11 : arg11.IsWhole) (arg12 : Memref sig .tc .vmem S144x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hc0 : ¬ firstTile i = 1#1) (hc1 : k0_cond2 i = 1#1) :
    Σ' (Y10 : BufTy.Contents (Elt F) arg10.view.ty) (Y12 : BufTy.Contents (Elt F) arg12.view.ty) (Y13 : BufTy.Contents (Elt F) arg13.view.ty) (Y14 : BufTy.Contents (Elt F) arg14.view.ty) (Y15 : BufTy.Contents (Elt F) arg15.view.ty), { Y16 : BufTy.Contents (Elt F) arg16.view.ty // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp frame (wpE (defs₀ (F := F)) Variants.none (c : Thread nD τ) none) E (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} Y10) ∗ (arg11.view.loc (c : Thread nD τ) ↦[arg11.view.set]{fullShare} X11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (arg15.view.loc (c : Thread nD τ) ↦[arg15.view.set]{fullShare} Y15) ∗ (arg16.view.loc (c : Thread nD τ) ↦[arg16.view.set]{fullShare} Y16))) } := by
  refine ⟨?_, ?_, ?_, ?_, ?_, ?_, fun E => ?run⟩
  case run =>
    simp only [cc0_diffattn_eq_skeleton]; unfold cc0_diffattn_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    iintro ⟨H3, H4, H5, H6, H7, H8, H9, H10, H11, H12, H13, H14, H15, H16⟩
    sl_exec (disch := first | sl_exact hc0 | sl_exact hc1)
    sl_step
    sl_close

end Cert.DiffIdeal.Hand

end
-- ==== Proof.DiffIdealBodyC.lean ====
module

public import proofs.«01_k».proof.Proof.DiffIdealBodyB

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body on whole staging buffers at an even later query tile: the four-block branch is not taken. What each written buffer ends with is the run's own find. -/
@[irreducible] def runC (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1024x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S144x4096 .bf16) (harg11 : arg11.IsWhole) (arg12 : Memref sig .tc .vmem S144x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (hc0 : ¬ firstTile i = 1#1) (hc1 : ¬ k0_cond2 i = 1#1) :
    Σ' (Y10 : BufTy.Contents (Elt F) arg10.view.ty) (Y12 : BufTy.Contents (Elt F) arg12.view.ty) (Y13 : BufTy.Contents (Elt F) arg13.view.ty) (Y14 : BufTy.Contents (Elt F) arg14.view.ty) (Y15 : BufTy.Contents (Elt F) arg15.view.ty), { Y16 : BufTy.Contents (Elt F) arg16.view.ty // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp frame (wpE (defs₀ (F := F)) Variants.none (c : Thread nD τ) none) E (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} Y10) ∗ (arg11.view.loc (c : Thread nD τ) ↦[arg11.view.set]{fullShare} X11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (arg15.view.loc (c : Thread nD τ) ↦[arg15.view.set]{fullShare} Y15) ∗ (arg16.view.loc (c : Thread nD τ) ↦[arg16.view.set]{fullShare} Y16))) } := by
  refine ⟨?_, ?_, ?_, ?_, ?_, ?_, fun E => ?run⟩
  case run =>
    simp only [cc0_diffattn_eq_skeleton]; unfold cc0_diffattn_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    iintro ⟨H3, H4, H5, H6, H7, H8, H9, H10, H11, H12, H13, H14, H15, H16⟩
    sl_exec (disch := first | sl_exact hc0 | sl_exact hc1)
    sl_step
    sl_close

end Cert.DiffIdeal.Hand

end
-- ==== Proof.DiffIdealRun.lean ====
module

public import proofs.«01_k».proof.Proof.Gen.DiffIdeal.Frame
public import proofs.«01_k».proof.Proof.DiffIdealBodyC
public import Idealize.ShloMosaic.Lib.Claim
public import Idealize.ShloMosaic.Lib.Pipeline.ValueKit

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

/-- A buffer of the core's held whole, at contents nothing is said of. -/
abbrev held (c : Dev nD) {sh : Shape} {e : EltTy} (a : Memref sig .tc .vmem sh e) : sProp 𝕄 :=
  iprop(∃ X : BufTy.Contents (Elt F) a.view.ty, a.view.loc (c : Thread nD τ) ↦[a.view.set]{fullShare} X)

theorem held_of_owns (c : Dev nD) {sh : Shape} {e : EltTy} (a : Memref sig .tc .vmem sh e) (X : sh.Idx → Elt F e) :
    (owns (c : Thread nD τ) a fullShare X : sProp 𝕄) ⊢ held c a := by
  unfold owns
  iintro ⟨%f, %hf, H⟩
  iexists f; iexact H

theorem owns_of_held (c : Dev nD) {sh : Shape} {e : EltTy} (a : Memref sig .tc .vmem sh e) :
    (held c a : sProp 𝕄) ⊢ iprop(∃ X, ⌜True⌝ ∗ owns (c : Thread nD τ) a fullShare X) := by
  unfold owns
  iintro ⟨%f, H⟩
  iexists (a.view.read (Elt F) f)
  isplitr; · ipureintro; trivial
  iexists f
  isplitr; · ipureintro; rfl
  iexact H

set_option maxHeartbeats 1000000 in
/-- The body keeps every buffer it is called on, whichever of its cases the point is in; in the first query tile
    the four-block branch is never taken. -/
theorem keeps (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1024x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S144x4096 .bf16) (harg11 : arg11.IsWhole) (arg12 : Memref sig .tc .vmem S144x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .f32) (harg16 : arg16.IsWhole) (E : Set ℕ) (hi : firstTile i = 1#1 → ¬ k0_cond2 i = 1#1) :
    (iprop(held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16) : sProp 𝕄)
      ⊢ wp frame (wpE (defs₀ (F := F)) Variants.none (c : Thread nD τ) none) E (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16)) := by
  suffices h : ∀ (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty), (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp frame (wpE (defs₀ (F := F)) Variants.none (c : Thread nD τ) none) E (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16)) by
    iintro ⟨⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩⟩
    iapply (h X3 X4 X5 X6 X7 X8 X9 X10 X11 X12 X13 X14 X15 X16)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  intro X3 X4 X5 X6 X7 X8 X9 X10 X11 X12 X13 X14 X15 X16
  by_cases h0 : firstTile i = 1#1
  · have h1 := hi h0
    refine triple_restated ((runA c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10 X11 X12 X13 X14 X15 X16 h0 h1).2.2.2.2.2.2.property E) rfl .rfl fun _ => ?_
    iintro ⟨H3, H4, H5, H6, H7, H8, H9, H10, H11, H12, H13, H14, H15, H16⟩
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  by_cases h1 : k0_cond2 i = 1#1
  · refine triple_restated ((runB c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10 X11 X12 X13 X14 X15 X16 h0 h1).2.2.2.2.2.property E) rfl .rfl fun _ => ?_
    iintro ⟨H3, H4, H5, H6, H7, H8, H9, H10, H11, H12, H13, H14, H15, H16⟩
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  · refine triple_restated ((runC c i arg3 harg3 arg4 harg4 arg5 harg5 arg6 harg6 arg7 harg7 arg8 harg8 arg9 harg9 arg10 harg10 arg11 harg11 arg12 harg12 arg13 harg13 arg14 harg14 arg15 harg15 arg16 harg16 X3 X4 X5 X6 X7 X8 X9 X10 X11 X12 X13 X14 X15 X16 h0 h1).2.2.2.2.2.property E) rfl .rfl fun _ => ?_
    iintro ⟨H3, H4, H5, H6, H7, H8, H9, H10, H11, H12, H13, H14, H15, H16⟩
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

theorem first_not_second (t : Fin cfg0.N) : firstTile (grid0.coords t) = 1#1 → ¬ k0_cond2 (grid0.coords t) = 1#1 :=
  (by decide +kernel : ∀ t : Fin grid0.N, firstTile (grid0.coords t) = 1#1 → ¬ k0_cond2 (grid0.coords t) = 1#1) t

variable (m : (ℓ : Loc nD τ sig) → Buf (Elt F) ℓ) (ρ : Dev nD → PrngReg)

/-- The proof data: the arrays at their contents at the call; of what the body leaves in a buffer, nothing is said. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The core's memory outside the windows: the six scratch buffers and the random bits' register. -/
theorem outside (c : Dev nD) : (Pipeline.ΦA spec0 c : sProp 𝕄) = iprop((held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5)) ∗ (∃ r, prngReg c r)) := by
  unfold Pipeline.ΦA; rw [scopedRest0_eq]; simp only [held, Memref.view_whole, View.set_whole]; try rfl

/-- What the body is called with at a point, window by window. -/
def pre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7))

/-- What it hands back. -/
def post (c : Dev nD) (t : Fin cfg0.N) : sProp 𝕄 :=
  iprop((rdat m c).Φ t.succ ∗ (rdat m c).owesAt () t.succ
    ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X))

set_option maxHeartbeats 1000000 in
/-- The body at any point. -/
theorem body_at (c : Dev nD) (t : Fin cfg0.N) (Y : (w : Fin cfg0.W) → (cfg0.win w).block.Idx → Elt F (cfg0.win w).elt) :
    pre m c t Y ⊢ wp frame (wpE (defs₀ (F := F)) Variants.none c none) Set.univ (bodyAt0 t) (fun _ => post m c t) := by
  unfold pre post bodyAt0
  rw [show (rdat m c).owesAt () t.succ = (rdat m c).owesAt () t.castSucc from rfl,
    show (rdat m c).Φ t.succ = Pipeline.ΦA spec0 c from rfl, show (rdat m c).Φ t.castSucc = Pipeline.ΦA spec0 c from rfl, outside]
  refine BIBase.Entails.trans ?_ (wp_wand_r frame (wpE (defs₀ (F := F)) Variants.none c none) Set.univ (Q := fun _ => iprop(held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5))))
  iintro ⟨⟨⟨H11, H12, H13, H14, H15, H16⟩, Hg⟩, Ho, H3, H4, H5, H6, H7, H8, H9, H10⟩
  isplitl [H3 H4 H5 H6 H7 H8 H9 H10 H11 H12 H13 H14 H15 H16]
  · iapply (keeps c (grid0.coords t) _ _ _ _ _ _ _ _ _ _ _ _ _ _ _ _ _ _ _ _ _ _ _ _ _ _ _ _ Set.univ (first_not_second t))
    isplitl [H3]; · iapply (held_of_owns c _ (Y 0)); iexact H3
    isplitl [H4]; · iapply (held_of_owns c _ (Y 1)); iexact H4
    isplitl [H5]; · iapply (held_of_owns c _ (Y 2)); iexact H5
    isplitl [H6]; · iapply (held_of_owns c _ (Y 3)); iexact H6
    isplitl [H7]; · iapply (held_of_owns c _ (Y 4)); iexact H7
    isplitl [H8]; · iapply (held_of_owns c _ (Y 5)); iexact H8
    isplitl [H9]; · iapply (held_of_owns c _ (Y 6)); iexact H9
    isplitl [H10]; · iapply (held_of_owns c _ (Y 7)); iexact H10
    isplitl [H11]; · iexact H11
    isplitl [H12]; · iexact H12
    isplitl [H13]; · iexact H13
    isplitl [H14]; · iexact H14
    isplitl [H15]; · iexact H15
    iexact H16
  · iintro %_ ⟨H3, H4, H5, H6, H7, H8, H9, H10, H11, H12, H13, H14, H15, H16⟩
    isplitl [H11 H12 H13 H14 H15 H16 Hg]
    · isplitr [Hg]
      · isplitl [H11]; · iexact H11
        isplitl [H12]; · iexact H12
        isplitl [H13]; · iexact H13
        isplitl [H14]; · iexact H14
        isplitl [H15]; · iexact H15
        iexact H16
      · iexact Hg
    isplitl [Ho]; · iexact Ho
    isplitl [H3]; · iapply (owns_of_held c _); iexact H3
    isplitl [H4]; · iapply (owns_of_held c _); iexact H4
    isplitl [H5]; · iapply (owns_of_held c _); iexact H5
    isplitl [H6]; · iapply (owns_of_held c _); iexact H6
    isplitl [H7]; · iapply (owns_of_held c _); iexact H7
    isplitl [H8]; · iapply (owns_of_held c _); iexact H8
    isplitl [H9]; · iapply (owns_of_held c _); iexact H9
    iapply (owns_of_held c _); iexact H10

theorem body_row (t : Fin cfg0.N) : defs₀ (F := F) .tc cfg0.body (cfg0.bodyArgs t (cfg0.slots t)) = bodyAt0 t := by
  unfold defs₀; rw [Defs.onTc_tc]

/-- The library's body obligation. -/
theorem body (c : Dev nD) : (rdat (F := F) m c).BodyObligation (defs₀ (F := F)) Variants.none () Set.univ := fun t Y _ => by
  rw [bigSep_W0, bigSep_W0, body_row]
  exact triple_restated (body_at m c t Y) rfl .rfl fun _ => .rfl

set_option backward.isDefEq.respectTransparency.types false in
/-- The run of the whole program: every input array as it was, and every counter back at zero. -/
theorem run_main : θ_run defs (onTc (τ := τ) (main (F := F))) (s₀ m ρ)
    (fun r => RDat.FramePost (cfgs 0) (rdat m) (V m) r ∧ r.2.sem = fun _ => 0) :=
  RDat.θ_run_frame_track_shared (Q' := _) cfgs (0 : Fin 1) launch₀0 defs₀ Variants.none (rdat m) m ρ main
    (hbody := body m) (hq := fun _ _ _ => rfl) (howed := fun _ _ => rfl) (V := V m) (hmain := hmain m Variants.none)
    (hA := fun _ _ => rfl) (hin := fun _ => .rfl) (hout := fun _ => .rfl)

/-- The arguments end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(RDat.FramePost.arr_in h.1 c 6 rfl).trans (V_main_arg0 m c),
      (RDat.FramePost.arr_in h.1 c 0 rfl).trans (V_main_arg1 m c),
      ((h.1 c).2 main_arg2 (Pipeline.mem_restRefs_of main_arg2 (by decide) (by decide))).trans (V_main_arg2 m c)⟩, h.2⟩) (run_main m ρ)

end Cert.DiffIdeal.Hand

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MemKV
public import proofs.«01_k».proof.Proof.Gen.MemKV.Skeleton
public import proofs.«01_k».proof.Proof.Gen.MemKV.Launch
public import proofs.«01_k».proof.Proof.Gen.MemKV.Points
public import proofs.«01_k».proof.Proof.Gen.MemKV.Frame
public import proofs.«01_k».proof.Proof.Gen.MemKVIdeal
public import proofs.«01_k».proof.Proof.Gen.MemKVIdeal.Skeleton
public import proofs.«01_k».proof.Proof.Gen.MemKVIdeal.Launch
public import proofs.«01_k».proof.Proof.Gen.MemKVIdeal.Points
public import proofs.«01_k».proof.Proof.Gen.MemKVIdeal.Frame
public import proofs.«01_k».proof.Proof.Gen.MemKVRefIdeal
public import proofs.«01_k».proof.Proof.Gen.MemKVIdeal.Value
public import proofs.«01_k».proof.Proof.Gen.MemKVRefIdeal.Run
public import proofs.«01_k».proof.Proof.Gen.MemKVRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.InProjValue
public import proofs.«01_k».proof.Proof.MemKVValue
public import proofs.«01_k».proof.Proof.MergeValue
public import proofs.«01_k».proof.Proof.DiffRun
public import proofs.«01_k».proof.Proof.DiffIdealRun
public import Idealize.ShloMosaic.Lib.Claim
public import Idealize.ShloMosaic.Adequacy
public import Idealize.ShloMosaic.Init

@[expose] public section

noncomputable section

namespace Cert.Proof

open Idealize.ShloMosaic Idealize.SL.Sem

/-- The two printings of the projection have one body table. -/
theorem bodies_eq : Cert.InProj.defs₀ (F := Bits) = Cert.InProjIdeal.defs₀ (F := Bits) := by
  unfold Cert.InProj.defs₀ Cert.InProjIdeal.defs₀
  refine congrArg Defs.onTc (funext fun l => funext fun x => ?_)
  match l, x with
  | 0, (t, s) => rfl
  | ⟨_ + 1, h⟩, _ => exact absurd h (Nat.not_lt.2 (Nat.le_add_left _ _))

/-- So the two programs run from one table of definitions. -/
theorem defs_eq : Cert.InProj.defs (F := Bits) = Cert.InProjIdeal.defs (F := Bits) :=
  congrArg (Pipeline.defs Cert.InProjIdeal.pcfgs) bodies_eq

/-- The input projection's call returns and leaves its arguments, on the machine's numbers: the run is the one written for any numbers. -/
theorem inproj_frame : Cert.quiescent_InProj := fun m ρ _ => by
  rw [defs_eq]
  exact (θ_run (Cert.InProjIdeal.defs (F := Bits)) _ _).mono (fun _ h => ⟨fun c => h.1 c, h.2⟩) (Cert.InProjIdeal.Hand.unchanged (F := Bits) m ρ)

set_option maxRecDepth 8192 in
/-- The input projection's two written arrays are the reference's results. -/
theorem inproj_value : Cert.algebraic_InProjIdeal_InProjRefIdeal := by
  pair_intro
  · run_from Cert.InProjIdeal.Hand.run_values m g
  · run_from Cert.InProjRefIdeal.Value.run m' g'
    · rw [Cert.InProjRefIdeal.Read.val_main_v22_eq, (hagree c).2.2]
      exact (Cert.InProjIdeal.Hand.final4 m c).symm
    · rw [Cert.InProjRefIdeal.Read.val_main_v25_eq, (hagree c).2.2]
      exact (Cert.InProjIdeal.Hand.final5 m c).symm

/-- The reference of the input projection runs and leaves its arguments. -/
theorem inproj_ref_frame : Cert.quiescent_InProjRefIdeal := fun m g _ =>
  (θ_run (Cert.InProjRefIdeal.defs (F := Ideal)) _ _).mono (fun _ h => ⟨fun c => (h c).2.2, sem_eq_zero_of_no_sems rfl _⟩)
    (Cert.InProjRefIdeal.Value.run m g)

set_option maxRecDepth 8192 in
/-- The memory projection's written array is the reference's result. -/
theorem memkv_value : Cert.algebraic_MemKVIdeal_MemKVRefIdeal := by
  pair_intro
  · run_from Cert.MemKVIdeal.Value.run_blocks m g
  · run_from Cert.MemKVRefIdeal.Value.run m' g'
    rw [Cert.MemKVRefIdeal.Read.val_main_v15_eq]
    exact (Cert.MemKVIdeal.Value.final m c).symm

/-- The reference of the memory projection runs and leaves its arguments. -/
theorem memkv_ref_frame : Cert.quiescent_MemKVRefIdeal := fun m g _ =>
  (θ_run (Cert.MemKVRefIdeal.defs (F := Ideal)) _ _).mono (fun _ h => ⟨fun c => (h c).2, sem_eq_zero_of_no_sems rfl _⟩)
    (Cert.MemKVRefIdeal.Value.run m g)

set_option maxRecDepth 8192 in
/-- The merge call's written array is the reference's result. -/
theorem merge_value : Cert.algebraic_MergeIdeal_MergeRefIdeal := by
  pair_intro
  · run_from Cert.MergeIdeal.Value.run_blocks m g
  · run_from Cert.MergeRefIdeal.Value.run m' g'
    rw [Cert.MergeRefIdeal.Read.val_main_v68_eq]
    obtain ⟨h0, h1, h2, h3, h4, h5, h6, h7, h8, h9⟩ := hagree c
    rw [h0, h1, h2, h3, h4, h5, h6, h7, h8, h9]
    exact (Cert.MergeIdeal.Value.final m c).symm

/-- The reference of the merge runs and leaves its arguments. -/
theorem merge_ref_frame : Cert.quiescent_MergeRefIdeal := fun m g _ =>
  (θ_run (Cert.MergeRefIdeal.defs (F := Ideal)) _ _).mono (fun _ h => ⟨fun c => (h c).2, sem_eq_zero_of_no_sems rfl _⟩)
    (Cert.MergeRefIdeal.Value.run m g)

/-- The differential attention's call returns and leaves its arguments, on the machine's numbers. -/
theorem diff_frame : Cert.quiescent_Diff := fun m ρ _ => Cert.Diff.Hand.unchanged m ρ

/-- So it does over the extended reals. -/
theorem diff_ideal_frame : Cert.quiescent_DiffIdeal := fun m ρ _ => Cert.DiffIdeal.Hand.unchanged m ρ

/-- The attention's two named constants stand for the reals that they were rounded from. -/
theorem diff_preserves : Cert.preserves_Diff_DiffIdeal :=
  ⟨IdealRules.named_const.statement _ _ _ _ _ rfl, IdealRules.named_const.statement _ _ _ _ _ rfl⟩

/-- Everything the certificate states. -/
theorem claim : Cert.Claim := ⟨Cert.InProj.Gen.facts, Cert.InProjIdeal.Gen.facts, Cert.InProjRefIdeal.Gen.facts,
  Cert.MemKV.Gen.facts, Cert.MemKVIdeal.Gen.facts, Cert.MemKVRefIdeal.Gen.facts,
  Cert.Merge.Gen.facts, Cert.MergeIdeal.Gen.facts, Cert.MergeRefIdeal.Gen.facts,
  Cert.Diff.Gen.facts, Cert.DiffIdeal.Gen.facts, Cert.Gdn.Gen.facts, Cert.GdnIdeal.Gen.facts,
  inproj_frame, fun m ρ _ => Cert.InProjIdeal.Hand.unchanged m ρ, inproj_ref_frame,
  fun m ρ _ => Cert.MemKV.Gen.frame m ρ, fun m ρ _ => Cert.MemKVIdeal.Gen.frame m ρ, memkv_ref_frame,
  fun m ρ _ => Cert.Merge.Gen.frame m ρ, fun m ρ _ => Cert.MergeIdeal.Gen.frame m ρ, merge_ref_frame,
  diff_frame, diff_ideal_frame, fun m ρ _ => Cert.Gdn.Gen.frame m ρ, fun m ρ _ => Cert.GdnIdeal.Gen.frame m ρ,
  trivial, inproj_value, trivial, memkv_value, trivial, merge_value, diff_preserves, trivial⟩

end Cert.Proof

end
